-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![4096, 8192]⟩ 1 8 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 1024]⟩ : Shape).Idx → _) i = 1#1 → r.2.mem ((c.tc : Thread Cert.KernelIdeal.nD Cert.KernelIdeal.τ).loc Cert.KernelIdeal.main_v1) i = (Layout.block ⟨2, ![4096, 1024]⟩ ⟨2, ![4096, 8192]⟩ 1 8 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v9) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_ReferenceIdeal_on_clip_idle (hKernelIdeal := hKernelIdeal) (hReferenceIdeal := hReferenceIdeal) (hOn_clip_idle := hOn_clip_idle)
    ∧ algebraic_KernelIdeal_UnclippedIdeal (hKernelIdeal := hKernelIdeal) (hUnclippedIdeal := hUnclippedIdeal)
-- ==== On_clip_idle.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_v5 : FVec F S4096x8192 .f32 := Host.absf main_v4
  let main_cst : FVec F S_ .f32 := constant S_ .f32 0x42700000#32
  let main_v6 : FVec F S4096x8192 .f32 := broadcastInDim S4096x8192 ![] bcast_S_S4096x8192 main_cst
  let main_v7 : IVec S4096x8192 1 := cmpf .ole main_v5 main_v6
  main_v7
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x4096x512 : Shape := ⟨3, ![2, 4096, 512]⟩
abbrev S7x512x1024 : Shape := ⟨3, ![7, 512, 1024]⟩
abbrev S2 : Shape := ⟨1, ![2]⟩
abbrev S7 : Shape := ⟨1, ![7]⟩
abbrev S_ : Shape := ⟨0, ![]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x512x1024 : Shape := ⟨3, ![1, 512, 1024]⟩
abbrev S512x1024 : Shape := ⟨2, ![512, 1024]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S2x4096x512, .fp8e5m2⟩
  | .local _ .vmem, ⟨4, _⟩ => ⟨S7x512x1024, .bf16⟩
  | .local _ .vmem, ⟨5, _⟩ => ⟨S7x512x1024, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.addi v2 c1_i32_1
  let c8_i32_2 : BitVec 32 := 8#32
  let c0_i32 : BitVec 32 := 0#32
  let v8 : BitVec 1 := Scalar.cmpi .eq c8_i32_2 c0_i32
  let c1_i32_3 : BitVec 32 := 1#32
  let v9 : BitVec 32 := Scalar.select v8 c1_i32_3 c8_i32_2
  let v10 : BitVec 32 := Scalar.remsi v7 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c1_i32_8 : BitVec 32 := 1#32
  let v18 : BitVec 32 := Scalar.muli v17 c1_i32_8
  let v19 : BitVec 32 := Scalar.addi c0_i32_9 v18
  v19.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v20 : BitVec 32 := Scalar.addi v2 c2_i32
  let c8_i32_10 : BitVec 32 := 8#32
  let c0_i32_11 : BitVec 32 := 0#32
  let v21 : BitVec 1 := Scalar.cmpi .eq c8_i32_10 c0_i32_11
  let c1_i32_12 : BitVec 32 := 1#32
  let v22 : BitVec 32 := Scalar.select v21 c1_i32_12 c8_i32_10
  let v23 : BitVec 32 := Scalar.remsi v20 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c1_i32_17 : BitVec 32 := 1#32
  let v31 : BitVec 32 := Scalar.muli v30 c1_i32_17
  let v32 : BitVec 32 := Scalar.addi c0_i32_18 v31
  v32.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v33 : BitVec 32 := Scalar.addi v2 c3_i32
  let c8_i32_19 : BitVec 32 := 8#32
  let c0_i32_20 : BitVec 32 := 0#32
  let v34 : BitVec 1 := Scalar.cmpi .eq c8_i32_19 c0_i32_20
  let c1_i32_21 : BitVec 32 := 1#32
  let v35 : BitVec 32 := Scalar.select v34 c1_i32_21 c8_i32_19
  let v36 : BitVec 32 := Scalar.remsi v33 v35
  let c0_i32_23 : BitVec 32 := 0#32
  let v38 : BitVec 1 := Scalar.cmpi .slt v36 c0_i32_23
  let c0_i32_24 : BitVec 32 := 0#32
  let v39 : BitVec 1 := Scalar.cmpi .slt v35 c0_i32_24
  let v40 : BitVec 1 := Scalar.xori v38 v39
  let c0_i32_22 : BitVec 32 := 0#32
  let v37 : BitVec 1 := Scalar.cmpi .ne v36 c0_i32_22
  let v41 : BitVec 1 := Scalar.andi v40 v37
  let v42 : BitVec 32 := Scalar.addi v36 v35
  let v43 : BitVec 32 := Scalar.select v41 v42 v36
  let c1_i32_26 : BitVec 32 := 1#32
  let v44 : BitVec 32 := Scalar.muli v43 c1_i32_26
  let v45 : BitVec 32 := Scalar.addi c0_i32_27 v44
  v45.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v46 : BitVec 32 := Scalar.addi v2 c4_i32
  let c8_i32_28 : BitVec 32 := 8#32
  let c0_i32_29 : BitVec 32 := 0#32
  let v47 : BitVec 1 := Scalar.cmpi .eq c8_i32_28 c0_i32_29
  let c1_i32_30 : BitVec 32 := 1#32
  let v48 : BitVec 32 := Scalar.select v47 c1_i32_30 c8_i32_28
  let v49 : BitVec 32 := Scalar.remsi v46 v48
  let c0_i32_32 : BitVec 32 := 0#32
  let v51 : BitVec 1 := Scalar.cmpi .slt v49 c0_i32_32
  let c0_i32_33 : BitVec 32 := 0#32
  let v52 : BitVec 1 := Scalar.cmpi .slt v48 c0_i32_33
  let v53 : BitVec 1 := Scalar.xori v51 v52
  let c0_i32_31 : BitVec 32 := 0#32
  let v50 : BitVec 1 := Scalar.cmpi .ne v49 c0_i32_31
  let v54 : BitVec 1 := Scalar.andi v53 v50
  let v55 : BitVec 32 := Scalar.addi v49 v48
  let v56 : BitVec 32 := Scalar.select v54 v55 v49
  let c1_i32_35 : BitVec 32 := 1#32
  let v57 : BitVec 32 := Scalar.muli v56 c1_i32_35
  let v58 : BitVec 32 := Scalar.addi c0_i32_36 v57
  v58.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v59 : BitVec 32 := Scalar.addi v2 c5_i32
  let c8_i32_37 : BitVec 32 := 8#32
  let c0_i32_38 : BitVec 32 := 0#32
  let v60 : BitVec 1 := Scalar.cmpi .eq c8_i32_37 c0_i32_38
  let c1_i32_39 : BitVec 32 := 1#32
  let v61 : BitVec 32 := Scalar.select v60 c1_i32_39 c8_i32_37
  let v62 : BitVec 32 := Scalar.remsi v59 v61
  let c0_i32_41 : BitVec 32 := 0#32
  let v64 : BitVec 1 := Scalar.cmpi .slt v62 c0_i32_41
  let c0_i32_42 : BitVec 32 := 0#32
  let v65 : BitVec 1 := Scalar.cmpi .slt v61 c0_i32_42
  let v66 : BitVec 1 := Scalar.xori v64 v65
  let c0_i32_40 : BitVec 32 := 0#32
  let v63 : BitVec 1 := Scalar.cmpi .ne v62 c0_i32_40
  let v67 : BitVec 1 := Scalar.andi v66 v63
  let v68 : BitVec 32 := Scalar.addi v62 v61
  let v69 : BitVec 32 := Scalar.select v67 v68 v62
  let c1_i32_44 : BitVec 32 := 1#32
  let v70 : BitVec 32 := Scalar.muli v69 c1_i32_44
  let v71 : BitVec 32 := Scalar.addi c0_i32_45 v70
  v71.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v72 : BitVec 32 := Scalar.addi v2 c6_i32
  let c8_i32_46 : BitVec 32 := 8#32
  let c0_i32_47 : BitVec 32 := 0#32
  let v73 : BitVec 1 := Scalar.cmpi .eq c8_i32_46 c0_i32_47
  let c1_i32_48 : BitVec 32 := 1#32
  let v74 : BitVec 32 := Scalar.select v73 c1_i32_48 c8_i32_46
  let v75 : BitVec 32 := Scalar.remsi v72 v74
  let c0_i32_50 : BitVec 32 := 0#32
  let v77 : BitVec 1 := Scalar.cmpi .slt v75 c0_i32_50
  let c0_i32_51 : BitVec 32 := 0#32
  let v78 : BitVec 1 := Scalar.cmpi .slt v74 c0_i32_51
  let v79 : BitVec 1 := Scalar.xori v77 v78
  let c0_i32_49 : BitVec 32 := 0#32
  let v76 : BitVec 1 := Scalar.cmpi .ne v75 c0_i32_49
  let v80 : BitVec 1 := Scalar.andi v79 v76
  let v81 : BitVec 32 := Scalar.addi v75 v74
  let v82 : BitVec 32 := Scalar.select v80 v81 v75
  let c1_i32_53 : BitVec 32 := 1#32
  let v83 : BitVec 32 := Scalar.muli v82 c1_i32_53
  let v84 : BitVec 32 := Scalar.addi c0_i32_54 v83
  v84.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v85 : BitVec 32 := Scalar.addi v2 c7_i32
  let c8_i32_55 : BitVec 32 := 8#32
  let c0_i32_56 : BitVec 32 := 0#32
  let v86 : BitVec 1 := Scalar.cmpi .eq c8_i32_55 c0_i32_56
  let c1_i32_57 : BitVec 32 := 1#32
  let v87 : BitVec 32 := Scalar.select v86 c1_i32_57 c8_i32_55
  let v88 : BitVec 32 := Scalar.remsi v85 v87
  let c0_i32_59 : BitVec 32 := 0#32
  let v90 : BitVec 1 := Scalar.cmpi .slt v88 c0_i32_59
  let c0_i32_60 : BitVec 32 := 0#32
  let v91 : BitVec 1 := Scalar.cmpi .slt v87 c0_i32_60
  let v92 : BitVec 1 := Scalar.xori v90 v91
  let c0_i32_58 : BitVec 32 := 0#32
  let v89 : BitVec 1 := Scalar.cmpi .ne v88 c0_i32_58
  let v93 : BitVec 1 := Scalar.andi v92 v89
  let v94 : BitVec 32 := Scalar.addi v88 v87
  let v95 : BitVec 32 := Scalar.select v93 v94 v88
  let c1_i32_62 : BitVec 32 := 1#32
  let v96 : BitVec 32 := Scalar.muli v95 c1_i32_62
  let v97 : BitVec 32 := Scalar.addi c0_i32_63 v96
  v97.toNat
def k0_off1 (d0 : Dev nD) (c1_i32_65 : BitVec 32) (c0_i32_72 : BitVec 32) : Fin 2 → Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c1_i32_65
  let c8_i32_66 : BitVec 32 := 8#32
  let c0_i32_67 : BitVec 32 := 0#32
  let v99 : BitVec 1 := Scalar.cmpi .eq c8_i32_66 c0_i32_67
  let c1_i32_68 : BitVec 32 := 1#32
  let v100 : BitVec 32 := Scalar.select v99 c1_i32_68 c8_i32_66
  let v101 : BitVec 32 := Scalar.remsi v98 v100
  let c0_i32_70 : BitVec 32 := 0#32
  let v103 : BitVec 1 := Scalar.cmpi .slt v101 c0_i32_70
  let c0_i32_71 : BitVec 32 := 0#32
  let v104 : BitVec 1 := Scalar.cmpi .slt v100 c0_i32_71
  let v105 : BitVec 1 := Scalar.xori v103 v104
  let c0_i32_69 : BitVec 32 := 0#32
  let v102 : BitVec 1 := Scalar.cmpi .ne v101 c0_i32_69
  let v106 : BitVec 1 := Scalar.andi v105 v102
  let v107 : BitVec 32 := Scalar.addi v101 v100
  let v108 : BitVec 32 := Scalar.select v106 v107 v101
  let c1024_i32 : BitVec 32 := 1024#32
  let v109 : BitVec 32 := Scalar.muli v108 c1024_i32
  let v110 : BitVec 32 := Scalar.addi v109 c0_i32_72
  ![0, v110.toNat]
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_142 : BitVec 32 := 1#32
  let v202 : BitVec 32 := Scalar.addi v2 c1_i32_142
  let c8_i32_143 : BitVec 32 := 8#32
  let c0_i32_144 : BitVec 32 := 0#32
  let v203 : BitVec 1 := Scalar.cmpi .eq c8_i32_143 c0_i32_144
  let c1_i32_145 : BitVec 32 := 1#32
  let v204 : BitVec 32 := Scalar.select v203 c1_i32_145 c8_i32_143
  let v205 : BitVec 32 := Scalar.remsi v202 v204
  let c0_i32_147 : BitVec 32 := 0#32
  let v207 : BitVec 1 := Scalar.cmpi .slt v205 c0_i32_147
  let c0_i32_148 : BitVec 32 := 0#32
  let v208 : BitVec 1 := Scalar.cmpi .slt v204 c0_i32_148
  let v209 : BitVec 1 := Scalar.xori v207 v208
  let c0_i32_146 : BitVec 32 := 0#32
  let v206 : BitVec 1 := Scalar.cmpi .ne v205 c0_i32_146
  let v210 : BitVec 1 := Scalar.andi v209 v206
  let v211 : BitVec 32 := Scalar.addi v205 v204
  let v212 : BitVec 32 := Scalar.select v210 v211 v205
  let c1_i32_153 : BitVec 32 := 1#32
  let v213 : BitVec 32 := Scalar.muli v212 c1_i32_153
  let v214 : BitVec 32 := Scalar.addi c0_i32_154 v213
  v214.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_227 : BitVec 32 := 2#32
  let v309 : BitVec 32 := Scalar.addi v2 c2_i32_227
  let c8_i32_228 : BitVec 32 := 8#32
  let c0_i32_229 : BitVec 32 := 0#32
  let v310 : BitVec 1 := Scalar.cmpi .eq c8_i32_228 c0_i32_229
  let c1_i32_230 : BitVec 32 := 1#32
  let v311 : BitVec 32 := Scalar.select v310 c1_i32_230 c8_i32_228
  let v312 : BitVec 32 := Scalar.remsi v309 v311
  let c0_i32_232 : BitVec 32 := 0#32
  let v314 : BitVec 1 := Scalar.cmpi .slt v312 c0_i32_232
  let c0_i32_233 : BitVec 32 := 0#32
  let v315 : BitVec 1 := Scalar.cmpi .slt v311 c0_i32_233
  let v316 : BitVec 1 := Scalar.xori v314 v315
  let c0_i32_231 : BitVec 32 := 0#32
  let v313 : BitVec 1 := Scalar.cmpi .ne v312 c0_i32_231
  let v317 : BitVec 1 := Scalar.andi v316 v313
  let v318 : BitVec 32 := Scalar.addi v312 v311
  let v319 : BitVec 32 := Scalar.select v317 v318 v312
  let c1_i32_238 : BitVec 32 := 1#32
  let v320 : BitVec 32 := Scalar.muli v319 c1_i32_238
  let v321 : BitVec 32 := Scalar.addi c0_i32_239 v320
  v321.toNat
def k0_dev10 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_311 : BitVec 32 := 3#32
  let v416 : BitVec 32 := Scalar.addi v2 c3_i32_311
  let c8_i32_312 : BitVec 32 := 8#32
  let c0_i32_313 : BitVec 32 := 0#32
  let v417 : BitVec 1 := Scalar.cmpi .eq c8_i32_312 c0_i32_313
  let c1_i32_314 : BitVec 32 := 1#32
  let v418 : BitVec 32 := Scalar.select v417 c1_i32_314 c8_i32_312
  let v419 : BitVec 32 := Scalar.remsi v416 v418
  let c0_i32_316 : BitVec 32 := 0#32
  let v421 : BitVec 1 := Scalar.cmpi .slt v419 c0_i32_316
  let c0_i32_317 : BitVec 32 := 0#32
  let v422 : BitVec 1 := Scalar.cmpi .slt v418 c0_i32_317
  let v423 : BitVec 1 := Scalar.xori v421 v422
  let c0_i32_315 : BitVec 32 := 0#32
  let v420 : BitVec 1 := Scalar.cmpi .ne v419 c0_i32_315
  let v424 : BitVec 1 := Scalar.andi v423 v420
  let v425 : BitVec 32 := Scalar.addi v419 v418
  let v426 : BitVec 32 := Scalar.select v424 v425 v419
  let c1_i32_322 : BitVec 32 := 1#32
  let v427 : BitVec 32 := Scalar.muli v426 c1_i32_322
  let v428 : BitVec 32 := Scalar.addi c0_i32_323 v427
  v428.toNat
def k0_dev11 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v523 : BitVec 32 := Scalar.addi v2 c4_i32_395
  let c8_i32_396 : BitVec 32 := 8#32
  let c0_i32_397 : BitVec 32 := 0#32
  let v524 : BitVec 1 := Scalar.cmpi .eq c8_i32_396 c0_i32_397
  let c1_i32_398 : BitVec 32 := 1#32
  let v525 : BitVec 32 := Scalar.select v524 c1_i32_398 c8_i32_396
  let v526 : BitVec 32 := Scalar.remsi v523 v525
  let c0_i32_400 : BitVec 32 := 0#32
  let v528 : BitVec 1 := Scalar.cmpi .slt v526 c0_i32_400
  let c0_i32_401 : BitVec 32 := 0#32
  let v529 : BitVec 1 := Scalar.cmpi .slt v525 c0_i32_401
  let v530 : BitVec 1 := Scalar.xori v528 v529
  let c0_i32_399 : BitVec 32 := 0#32
  let v527 : BitVec 1 := Scalar.cmpi .ne v526 c0_i32_399
  let v531 : BitVec 1 := Scalar.andi v530 v527
  let v532 : BitVec 32 := Scalar.addi v526 v525
  let v533 : BitVec 32 := Scalar.select v531 v532 v526
  let c1_i32_406 : BitVec 32 := 1#32
  let v534 : BitVec 32 := Scalar.muli v533 c1_i32_406
  let v535 : BitVec 32 := Scalar.addi c0_i32_407 v534
  v535.toNat
def k0_dev12 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_479 : BitVec 32 := 5#32
  let v630 : BitVec 32 := Scalar.addi v2 c5_i32_479
  let c8_i32_480 : BitVec 32 := 8#32
  let c0_i32_481 : BitVec 32 := 0#32
  let v631 : BitVec 1 := Scalar.cmpi .eq c8_i32_480 c0_i32_481
  let c1_i32_482 : BitVec 32 := 1#32
  let v632 : BitVec 32 := Scalar.select v631 c1_i32_482 c8_i32_480
  let v633 : BitVec 32 := Scalar.remsi v630 v632
  let c0_i32_484 : BitVec 32 := 0#32
  let v635 : BitVec 1 := Scalar.cmpi .slt v633 c0_i32_484
  let c0_i32_485 : BitVec 32 := 0#32
  let v636 : BitVec 1 := Scalar.cmpi .slt v632 c0_i32_485
  let v637 : BitVec 1 := Scalar.xori v635 v636
  let c0_i32_483 : BitVec 32 := 0#32
  let v634 : BitVec 1 := Scalar.cmpi .ne v633 c0_i32_483
  let v638 : BitVec 1 := Scalar.andi v637 v634
  let v639 : BitVec 32 := Scalar.addi v633 v632
  let v640 : BitVec 32 := Scalar.select v638 v639 v633
  let c1_i32_490 : BitVec 32 := 1#32
  let v641 : BitVec 32 := Scalar.muli v640 c1_i32_490
  let v642 : BitVec 32 := Scalar.addi c0_i32_491 v641
  v642.toNat
def k0_dev13 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_563 : BitVec 32 := 6#32
  let v737 : BitVec 32 := Scalar.addi v2 c6_i32_563
  let c8_i32_564 : BitVec 32 := 8#32
  let c0_i32_565 : BitVec 32 := 0#32
  let v738 : BitVec 1 := Scalar.cmpi .eq c8_i32_564 c0_i32_565
  let c1_i32_566 : BitVec 32 := 1#32
  let v739 : BitVec 32 := Scalar.select v738 c1_i32_566 c8_i32_564
  let v740 : BitVec 32 := Scalar.remsi v737 v739
  let c0_i32_568 : BitVec 32 := 0#32
  let v742 : BitVec 1 := Scalar.cmpi .slt v740 c0_i32_568
  let c0_i32_569 : BitVec 32 := 0#32
  let v743 : BitVec 1 := Scalar.cmpi .slt v739 c0_i32_569
  let v744 : BitVec 1 := Scalar.xori v742 v743
  let c0_i32_567 : BitVec 32 := 0#32
  let v741 : BitVec 1 := Scalar.cmpi .ne v740 c0_i32_567
  let v745 : BitVec 1 := Scalar.andi v744 v741
  let v746 : BitVec 32 := Scalar.addi v740 v739
  let v747 : BitVec 32 := Scalar.select v745 v746 v740
  let c1_i32_574 : BitVec 32 := 1#32
  let v748 : BitVec 32 := Scalar.muli v747 c1_i32_574
  let v749 : BitVec 32 := Scalar.addi c0_i32_575 v748
  v749.toNat
def k0_dev14 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_647 : BitVec 32 := 7#32
  let v844 : BitVec 32 := Scalar.addi v2 c7_i32_647
  let c8_i32_648 : BitVec 32 := 8#32
  let c0_i32_649 : BitVec 32 := 0#32
  let v845 : BitVec 1 := Scalar.cmpi .eq c8_i32_648 c0_i32_649
  let c1_i32_650 : BitVec 32 := 1#32
  let v846 : BitVec 32 := Scalar.select v845 c1_i32_650 c8_i32_648
  let v847 : BitVec 32 := Scalar.remsi v844 v846
  let c0_i32_652 : BitVec 32 := 0#32
  let v849 : BitVec 1 := Scalar.cmpi .slt v847 c0_i32_652
  let c0_i32_653 : BitVec 32 := 0#32
  let v850 : BitVec 1 := Scalar.cmpi .slt v846 c0_i32_653
  let v851 : BitVec 1 := Scalar.xori v849 v850
  let c0_i32_651 : BitVec 32 := 0#32
  let v848 : BitVec 1 := Scalar.cmpi .ne v847 c0_i32_651
  let v852 : BitVec 1 := Scalar.andi v851 v848
  let v853 : BitVec 32 := Scalar.addi v847 v846
  let v854 : BitVec 32 := Scalar.select v852 v853 v847
  let c1_i32_658 : BitVec 32 := 1#32
  let v855 : BitVec 32 := Scalar.muli v854 c1_i32_658
  let v856 : BitVec 32 := Scalar.addi c0_i32_659 v855
  v856.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_695 : BitVec 32 := 512#32
  let v904 : BitVec 32 := Scalar.muli v2 c512_i32_695
  let v905 : Index := Scalar.indexCast v904
  let c0_696 : Index := 0#32
  ![v905.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_714 : BitVec 32 := 512#32
  let v928 : BitVec 32 := Scalar.muli v2 c512_i32_714
  let v929 : Index := Scalar.indexCast v928
  let c512_715 : Index := 512#32
  ![v929.toNat, 512]
def k0_off4 (d0 : Dev nD) (c1_i32_716 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v931 : BitVec 32 := Scalar.subi v2 c1_i32_716
  let c8_i32_717 : BitVec 32 := 8#32
  let c0_i32_718 : BitVec 32 := 0#32
  let v932 : BitVec 1 := Scalar.cmpi .eq c8_i32_717 c0_i32_718
  let c1_i32_719 : BitVec 32 := 1#32
  let v933 : BitVec 32 := Scalar.select v932 c1_i32_719 c8_i32_717
  let v934 : BitVec 32 := Scalar.remsi v931 v933
  let c0_i32_721 : BitVec 32 := 0#32
  let v936 : BitVec 1 := Scalar.cmpi .slt v934 c0_i32_721
  let c0_i32_722 : BitVec 32 := 0#32
  let v937 : BitVec 1 := Scalar.cmpi .slt v933 c0_i32_722
  let v938 : BitVec 1 := Scalar.xori v936 v937
  let c0_i32_720 : BitVec 32 := 0#32
  let v935 : BitVec 1 := Scalar.cmpi .ne v934 c0_i32_720
  let v939 : BitVec 1 := Scalar.andi v938 v935
  let v940 : BitVec 32 := Scalar.addi v934 v933
  let v941 : BitVec 32 := Scalar.select v939 v940 v934
  let c512_i32_736 : BitVec 32 := 512#32
  let v953 : BitVec 32 := Scalar.muli v941 c512_i32_736
  let v954 : Index := Scalar.indexCast v953
  let c0_737 : Index := 0#32
  ![v954.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Cells.lean ====
/-
  The communication of the kernel, stated once: which semaphores the eight devices share, what every unit on them
  promises, and what each device owes at the start.

  Device `c` talks to its seven peers. Peer number `i` (of seven) is the device `i + 1` places up the ring, `up c i`;
  seen from there `c` is `dn (up c i) i`. A device first signals every peer once on the entry barrier and waits for its
  seven units: the signal of a peer hands over the slot of that peer's receive buffer which this device will write.
  Then it computes column block after column block and sends each to its owner. The copy with number `i` goes to
  `up c i`, lands in slot `i` there, and pays that device's receive semaphore `i`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline
public import Idealize.ShloMosaic.Lib.Ring.FamCut
public import Idealize.ShloMosaic.Lib.Transfers
public import Idealize.ShloMosaic.Lib.Tactic

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's (whose duties are numbered by the seven peers), and the counters of local copies -/

abbrev UX : Type := URounds (GSem nD τ sig) (Fin 7)
abbrev UU : Type := UR sig nD τ × (UX × Counters)

local notation "𝕄" => MT nD τ sig (Option Unit) (Elt F) ℕ UU ℕ

abbrev EP : Emb (UR sig nD τ) (MT nD τ sig (Option Unit) (Elt F) ℕ UU ℕ) := embL
def EX : Emb UX (MT nD τ sig (Option Unit) (Elt F) ℕ UU ℕ) := (Emb.inl : Emb UX (UX × Counters)).trans embR
instance EX_landsIn : (EX (F := F)).LandsIn (upEmb : UEmb _ (MT nD τ sig (Option Unit) (Elt F) ℕ UU ℕ)) := by unfold EX; infer_instance

variable (m : (ℓ : Loc nD τ sig) → Buf (Elt F) ℓ)

/-! ## Peers -/

set_option backward.proofsInPublic true in
/-- The device `i + 1` places up the ring. -/
def up (c : Dev nD) (i : Fin 7) : Dev nD := ⟨(c.val + i.val + 1) % 8, Nat.mod_lt _ (by decide)⟩
set_option backward.proofsInPublic true in
/-- The device `i + 1` places down the ring. -/
def dn (c : Dev nD) (i : Fin 7) : Dev nD := ⟨(c.val + 7 - i.val) % 8, Nat.mod_lt _ (by decide)⟩
set_option backward.proofsInPublic true in
/-- The peer number under which the way back runs. -/
def rev (i : Fin 7) : Fin 7 := ⟨6 - i.val, by omega⟩

theorem dn_up (c : Dev nD) (i : Fin 7) : dn (up c i) i = c := by revert c i; decide
theorem up_dn (c : Dev nD) (i : Fin 7) : up (dn c i) i = c := by revert c i; decide
theorem up_up_rev (c : Dev nD) (i : Fin 7) : up (up c i) (rev i) = c := by revert c i; decide
theorem rev_rev (i : Fin 7) : rev (rev i) = i := by revert i; decide

/-- Going up by `i + 1`, as a permutation of the devices. -/
def around (i : Fin 7) : Dev nD ≃ Dev nD := ⟨fun c => up c i, fun c => dn c i, fun c => dn_up c i, fun c => up_dn c i⟩
/-- Turning the direction round, as a permutation of the peer numbers. -/
def turn : Fin 7 ≃ Fin 7 := ⟨rev, rev, rev_rev, rev_rev⟩

/-! ## Slots and cells -/

theorem slot_inb (i : Fin 7) : ∀ a, (![i.val, 0, 0] : Fin 3 → Nat) a + S1x512x1024.size a ≤ S7x512x1024.size a := by
  revert i; decide

/-- Slot `i` of the send buffer. -/
abbrev slotS (i : Fin 7) : Memref sig .tc .vmem S512x1024 .bf16 :=
  ((Memref.whole cc0_scratch2).slice (Rect.unit (s := S7x512x1024) ![i.val, 0, 0] S1x512x1024.size (slot_inb i)) (fun _ => rfl)).squeeze S512x1024 squeezes_S1x512x1024_S512x1024
/-- Slot `i` of the receive buffer. -/
abbrev slotR (i : Fin 7) : Memref sig .tc .vmem S512x1024 .bf16 :=
  ((Memref.whole cc0_scratch3).slice (Rect.unit (s := S7x512x1024) ![i.val, 0, 0] S1x512x1024.size (slot_inb i)) (fun _ => rfl)).squeeze S512x1024 squeezes_S1x512x1024_S512x1024

theorem sem_inb (i : Fin 7) : ∀ a, (![i.val] : Fin 1 → Nat) a + S1.size a ≤ S7.size a := by
  revert i; decide

/-- The barrier semaphore of the exchange, and the send and receive semaphores number `i`. -/
abbrev barS : Sem sig := (SemArray.scalar (sig.barrier 0 rfl) : Sems sig S_).sem
abbrev sendS (i : Fin 7) : DmaSem sig := ((cc0_scratch5.slice (Rect.unit (s := S7) ![i.val] S1.size (sem_inb i))).squeeze S_ squeezes_S1_S_).sem
abbrev recvS (i : Fin 7) : DmaSem sig := ((cc0_scratch6.slice (Rect.unit (s := S7) ![i.val] S1.size (sem_inb i))).squeeze S_ squeezes_S1_S_).sem

/-- The kinds of cell: the barrier, the sends, the receives. -/
abbrev Kx : Type := Unit ⊕ (Fin 7 ⊕ Fin 7)
abbrev csem : Kx → SemLoc sig
  | .inl _ => .reg barS
  | .inr (.inl i) => .dma (sendS i)
  | .inr (.inr i) => .dma (recvS i)

theorem csem_injective : Function.Injective csem := by decide

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))
abbrev kcell (ck : Dev nD × Kx) : GSem nD τ sig := ((ck.1 : Thread nD τ), csem ck.2)

open Classical in
/-- Which kind of cell a semaphore is, if one of the exchange's. -/
def kindOf (s : SemLoc sig) : Option Kx := if h : ∃ k, csem k = s then some h.choose else none

theorem kindOf_csem (k : Kx) : kindOf (csem k) = some k := by
  unfold kindOf
  have h : ∃ k', csem k' = csem k := ⟨k, rfl⟩
  rw [dif_pos h]
  exact congrArg some (csem_injective h.choose_spec)

theorem kindOf_bar : kindOf (.reg barS) = some (.inl ()) := kindOf_csem (.inl ())
theorem kindOf_send (i : Fin 7) : kindOf (.dma (sendS i)) = some (.inr (.inl i)) := kindOf_csem (.inr (.inl i))
theorem kindOf_recv (i : Fin 7) : kindOf (.dma (recvS i)) = some (.inr (.inr i)) := kindOf_csem (.inr (.inr i))
theorem kindOf_none {s : SemLoc sig} (h : ∀ k, csem k ≠ s) : kindOf s = none := by
  unfold kindOf; exact dif_neg fun ⟨k, hk⟩ => h k hk

/-- The units one block's copy pays. -/
abbrev N : ℕ := (slotR 0).view.dmaCredit
theorem N_pos : 0 < N := View.dmaCredit_pos _ (by decide)
theorem credit_R (i : Fin 7) : (slotR i).view.dmaCredit = N := rfl

/-! ## What the devices compute, as they compute it -/

/-- Device `c`'s rows of `x`, as staged. -/
def xAt (c : Dev nD) : (cc0_stg0_0 : Ref sig .tc).ty.Contents (Elt F) :=
  (win0_0.blk (0 : Fin 1)).view.read (Elt F) (m ((c : Thread nD τ).loc main_arg0))
/-- The two scales, as staged. -/
def sxAt (c : Dev nD) : (cc0_stg1_0 : Ref sig .tc).ty.Contents (Elt F) :=
  (win0_1.blk (0 : Fin 1)).view.read (Elt F) (m ((c : Thread nD τ).loc main_arg2))
def swAt (c : Dev nD) : (cc0_stg2_0 : Ref sig .tc).ty.Contents (Elt F) :=
  (win0_2.blk (0 : Fin 1)).view.read (Elt F) (m ((c : Thread nD τ).loc main_arg3))
/-- The one index of a one-word array. -/
abbrev one1 : S1.Idx := Shape.Idx.first (by decide)
/-- The scale of the dots. -/
def sAt (c : Dev nD) : F .f32 := Scalar.mulf (sxAt m c one1) (swAt m c one1)

/-- The weight columns device `c` copies at step `(t, h)`: half `h` of the columns of the device `t + 1` places up. -/
def wTile (c : Dev nD) (t : Fin 8) (h : Fin 2) : S4096x512.Idx → Elt F .f32 :=
  ((Memref.whole main_arg1).slice (Rect.unit (s := S4096x8192) (k0_off1 c (BitVec.ofNat 32 (1 + t.val)) (BitVec.ofNat 32 (512 * h.val))) S4096x512.size (k0_off1_inb c t h)) (fun _ => rfl)).view.read
    (Elt F) (m ((c : Thread nD τ).loc main_arg1))

/-- One step's tile: scale the dot of the narrowed rows and the narrowed columns, and multiply by the sigmoid. -/
def tileOf (s : F .f32) (x : FVec F S512x4096 .f32) (w : FVec F S4096x512 .f32) : FVec F S512x512 .f32 :=
  let y : FVec F S512x512 .f32 := mulf (matmul dot_S512x4096_S4096x512_S512x512_1_0_0_1_n_n none (truncf .fp8e5m2 x bitsLt_fp8e5m2_f32)
    (truncf .fp8e5m2 w bitsLt_fp8e5m2_f32) (constant S512x512 .f32 0x00000000#32)) (broadcast S512x512 s)
  mulf y (logistic y)

/-- The tile of device `c` at step `(t, h)`. -/
def tileAt (c : Dev nD) (t : Fin 8) (h : Fin 2) : FVec F S512x512 .f32 := tileOf (sAt m c) (xAt m c) (wTile m c t h)

set_option backward.proofsInPublic true in
/-- Which half a column of a block lies in, and its place there. -/
def half (j : S512x1024.Idx) : Fin 2 := ⟨(j 1).val / 512, Nat.div_lt_of_lt_mul (j 1).isLt⟩
set_option backward.proofsInPublic true in
def inHalf (j : S512x1024.Idx) : S512x512.Idx := fun a => ⟨if a.val = 0 then (j 0).val else (j 1).val % 512, by
  have h0 : (j 0).val < 512 := (j 0).isLt
  have h1 : (j 1).val % 512 < 512 := Nat.mod_lt _ (by decide)
  fin_cases a <;> simpa using by assumption⟩

/-- The block device `c` sends under number `i`: its two tiles side by side, narrowed. -/
def sent (c : Dev nD) (i : Fin 7) : S512x1024.Idx → Elt F .bf16 := fun j =>
  truncf .bf16 (tileAt m c i.castSucc (half j)) bitsLt_bf16_f32 (inHalf j)

/-! ## The payloads -/

/-- Slot `i` of device `c`'s receive, or send, buffer. -/
def rPts (c : Dev nD) (i : Fin 7) (f : Buf (Elt F) ((slotR i).view.loc (c : Thread nD τ))) : sProp 𝕄 :=
  (slotR i).view.loc (c : Thread nD τ) ↦[(slotR i).view.set]{fullShare} f
def sPts (c : Dev nD) (i : Fin 7) (f : Buf (Elt F) ((slotS i).view.loc (c : Thread nD τ))) : sProp 𝕄 :=
  (slotS i).view.loc (c : Thread nD τ) ↦[(slotS i).view.set]{fullShare} f

omit [FloatOps F] in
instance rPts_storable (c : Dev nD) (i) (f) : BI.Storable (upEmb : UEmb _ 𝕄) (rPts (F := F) c i f) := by unfold rPts; infer_instance
omit [FloatOps F] in
instance sPts_storable (c : Dev nD) (i) (f) : BI.Storable (upEmb : UEmb _ 𝕄) (sPts (F := F) c i f) := by unfold sPts; infer_instance

/-- What the unit of the peer `dn c i` hands `c` on the barrier: the slot there which `c` writes. -/
def barPay (c : Dev nD) (i : Fin 7) : sProp 𝕄 := iprop(∃ f, rPts (up c (rev i)) (rev i) f)
def sendPay (c : Dev nD) (i : Fin 7) : sProp 𝕄 := iprop(∃ f, sPts c i f)
/-- What an arrival on receive cell `i` hands `c`: slot `i`, holding the block sent by the device `i + 1` places down. -/
def recvPay (c : Dev nD) (i : Fin 7) : sProp 𝕄 := iprop(∃ f, ⌜(slotR i).view.read (Elt F) f = sent m (dn c i) i⌝ ∗ rPts c i f)

/-- One round. A barrier cell has seven duties of one unit, one a peer; a send or receive cell one duty of a block's units. -/
def exch : Rounds.Schedule (GSem nD τ sig) (Fin 7) 𝕄 where
  duties g r := if r = 0 ∧ g.1.2 = .tc then (match kindOf g.2 with | some (.inl _) => Finset.univ | some (.inr _) => {0} | none => ∅) else ∅
  unitless _ := False
  amount g _ _ := match kindOf g.2 with | some (.inr _) => N | _ => 1
  payload g _ d := match kindOf g.2 with
    | some (.inl _) => barPay g.1.1 d
    | some (.inr (.inl i)) => sendPay g.1.1 i
    | some (.inr (.inr i)) => recvPay m g.1.1 i
    | none => iprop(emp)
  amount_pos g _ _ _ := by
    show 0 < (match kindOf g.2 with | some (.inr _) => N | _ => 1)
    split
    · exact N_pos
    · exact Nat.one_pos

instance exch_payload_storable (g : GSem nD τ sig) (r : ℕ) (d : Fin 7) :
    BI.Storable (upEmb : UEmb _ 𝕄) ((exch (F := F) m).payload g r d) := by
  show BI.Storable upEmb (match kindOf g.2 with
    | some (.inl _) => barPay g.1.1 d
    | some (.inr (.inl i)) => sendPay g.1.1 i
    | some (.inr (.inr i)) => recvPay m g.1.1 i
    | none => iprop(emp))
  unfold barPay recvPay sendPay
  split <;> infer_instance

section Tables
variable (c : Dev nD) (i : Fin 7)

theorem duties_bar : (exch (F := F) m).duties (barCell c) 0 = Finset.univ := by dsimp only [exch]; rw [if_pos ⟨rfl, rfl⟩, kindOf_bar]
theorem duties_send : (exch (F := F) m).duties (sendCell c i) 0 = {0} := by dsimp only [exch]; rw [if_pos ⟨rfl, rfl⟩, kindOf_send]
theorem duties_recv : (exch (F := F) m).duties (recvCell c i) 0 = {0} := by dsimp only [exch]; rw [if_pos ⟨rfl, rfl⟩, kindOf_recv]
theorem duties_later (g : GSem nD τ sig) : ∀ r, 1 ≤ r → (exch (F := F) m).duties g r = ∅ :=
  fun r hr => by dsimp only [exch]; exact if_neg fun h => by omega

theorem amount_bar (d : Fin 7) : (exch (F := F) m).amount (barCell c) 0 d = 1 := by dsimp only [exch]; rw [kindOf_bar]
theorem amount_send (d : Fin 7) : (exch (F := F) m).amount (sendCell c i) 0 d = N := by dsimp only [exch]; rw [kindOf_send]
theorem amount_recv (d : Fin 7) : (exch (F := F) m).amount (recvCell c i) 0 d = N := by dsimp only [exch]; rw [kindOf_recv]

theorem expect_bar : (exch (F := F) m).expect (barCell c) 0 = 7 := by
  unfold Schedule.expect Schedule.amountOf
  rw [duties_bar, Finset.sum_congr rfl fun d _ => amount_bar m c d]; rfl
theorem expect_send : (exch (F := F) m).expect (sendCell c i) 0 = N := by
  unfold Schedule.expect Schedule.amountOf; rw [duties_send, Finset.sum_singleton, amount_send]
theorem expect_recv : (exch (F := F) m).expect (recvCell c i) 0 = N := by
  unfold Schedule.expect Schedule.amountOf; rw [duties_recv, Finset.sum_singleton, amount_recv]

theorem payload_bar (d : Fin 7) : (exch (F := F) m).payload (barCell c) 0 d = barPay c d := by dsimp only [exch]; rw [kindOf_bar]
theorem payload_send (d : Fin 7) : (exch (F := F) m).payload (sendCell c i) 0 d = sendPay c i := by dsimp only [exch]; rw [kindOf_send]
theorem payload_recv (d : Fin 7) : (exch (F := F) m).payload (recvCell c i) 0 d = recvPay m c i := by dsimp only [exch]; rw [kindOf_recv]

/-- The whole round of a barrier cell: every peer's slot. -/
theorem rest_bar : bigSep ((exch (F := F) m).duties (barCell c) 0 \ ∅) (fun d => (exch (F := F) m).payload (barCell c) 0 d)
    = bigSep Finset.univ fun i : Fin 7 => iprop(∃ f, rPts (up c i) i f) := by
  rw [Finset.sdiff_empty, duties_bar, bigSep_congr (fun d _ => payload_bar m c d), bigSep_univ_equiv turn (fun i : Fin 7 => iprop(∃ f, rPts (up c i) i f))]
  rfl
theorem rest_send : bigSep ((exch (F := F) m).duties (sendCell c i) 0 \ ∅) (fun d => (exch (F := F) m).payload (sendCell c i) 0 d) = sendPay c i := by
  rw [Finset.sdiff_empty, duties_send, bigSep_singleton, payload_send]
theorem rest_recv : bigSep ((exch (F := F) m).duties (recvCell c i) 0 \ ∅) (fun d => (exch (F := F) m).payload (recvCell c i) 0 d) = recvPay m c i := by
  rw [Finset.sdiff_empty, duties_recv, bigSep_singleton, payload_recv]

end Tables

/-! ## What each device owes, and the order of waiting -/

/-- The block credits device `c` still owes before its send number `k`; the barrier units before its signal number `k`. -/
def oweR (c : Dev nD) (k : ℕ) : CellTallies nD τ sig (Option Unit) := ∑ i ∈ Finset.univ.filter fun i : Fin 7 => k ≤ i.val, tallyAt (recvCell (up c i) i) (some ()) N
def oweB (c : Dev nD) (k : ℕ) : CellTallies nD τ sig (Option Unit) := ∑ i ∈ Finset.univ.filter fun i : Fin 7 => k ≤ i.val, tallyAt (barCell (up c i)) (some ()) 1
/-- Both. -/
def owe (c : Dev nD) (a b : ℕ) : CellTallies nD τ sig (Option Unit) := oweR c a + oweB c b
abbrev O₀ (c : Dev nD) : CellTallies nD τ sig (Option Unit) := owe c 0 0

theorem peel {A : Type} [AddCommMonoid A] (g : Fin 7 → A) (i : Fin 7) :
    (∑ j ∈ Finset.univ.filter fun j : Fin 7 => i.val ≤ j.val, g j) = (∑ j ∈ Finset.univ.filter fun j : Fin 7 => i.val + 1 ≤ j.val, g j) + g i := by
  have h : (Finset.univ.filter fun j : Fin 7 => i.val ≤ j.val) = insert i (Finset.univ.filter fun j : Fin 7 => i.val + 1 ≤ j.val) := by
    ext j; simp only [Finset.mem_filter, Finset.mem_univ, true_and, Finset.mem_insert, Fin.ext_iff]; omega
  rw [h, Finset.sum_insert (by simp), add_comm]

theorem owe_send (c : Dev nD) (i : Fin 7) (b : ℕ) : owe c i.val b = owe c (i.val + 1) b + tallyAt (recvCell (up c i) i) (some ()) N := by
  unfold owe oweR; rw [peel (fun j => tallyAt (recvCell (up c j) j) (some ()) N) i, add_right_comm]
theorem owe_signal (c : Dev nD) (i : Fin 7) (a : ℕ) : owe c a i.val = owe c a (i.val + 1) + tallyAt (barCell (up c i)) (some ()) 1 := by
  unfold owe oweB; rw [peel (fun j => tallyAt (barCell (up c j)) (some ()) 1) i, add_assoc]
theorem owe_done (c : Dev nD) : owe c 7 7 = 0 := by
  have h : (Finset.univ.filter fun j : Fin 7 => 7 ≤ j.val) = ∅ := by decide
  unfold owe oweR oweB; rw [h, Finset.sum_empty, Finset.sum_empty, add_zero]

/-- Two indices: the plain one for a device's own copies, the other for the exchange. -/
def L (g : GSem nD τ sig) : Finset (Option Unit) := if g.1.2 = .tc then Finset.univ else ∅
/-- In the exchange barrier cells stand at one, receive cells at two; everything else at zero. -/
def lv (g : GSem nD τ sig) (u : Option Unit) : ℕ := match u, kindOf g.2 with | some _, some (.inl _) => 1 | some _, some (.inr (.inr _)) => 2 | _, _ => 0

theorem L_of_ne (g : GSem nD τ sig) (h : g.1.2 ≠ .tc) : L g = ∅ := if_neg h
theorem L_tc (c : Dev nD) (sm : SemLoc sig) : L ((c : Thread nD τ), sm) = Finset.univ := if_pos rfl
theorem lv_bar (c : Dev nD) : lv (barCell c) (some ()) = 1 := by unfold lv; rw [kindOf_bar]
theorem lv_recv (c : Dev nD) (i : Fin 7) : lv (recvCell c i) (some ()) = 2 := by unfold lv; rw [kindOf_recv]

theorem sum_tally_pos {J : Finset (Fin 7)} {cell : Fin 7 → GSem nD τ sig} {n : ℕ} {g : GSem nD τ sig} {u : Option Unit}
    (h : 0 < (∑ i ∈ J, tallyAt (cell i) (some ()) n : CellTallies nD τ sig (Option Unit)) g u) : u = some () ∧ ∃ i, g = cell i := by
  rw [Finset.sum_apply, Finsupp.finset_sum_apply] at h
  obtain ⟨i, _, hi⟩ := Finset.exists_ne_zero_of_sum_ne_zero (Nat.pos_iff_ne_zero.mp h)
  by_contra hn
  rw [tallyAt_apply, if_neg fun h' => hn ⟨h'.2, i, h'.1⟩] at hi
  exact hi rfl

theorem owe_pos {c : Dev nD} {a b : ℕ} {g : GSem nD τ sig} {u : Option Unit} (h : 0 < owe c a b g u) :
    u = some () ∧ ((∃ i, g = recvCell (up c i) i) ∨ (b < 7 ∧ ∃ i, g = barCell (up c i))) := by
  unfold owe at h
  rw [Pi.add_apply, Finsupp.add_apply] at h
  rcases Nat.add_pos_iff_pos_or_pos.mp h with h | h
  · exact ⟨(sum_tally_pos h).1, .inl (sum_tally_pos h).2⟩
  · refine ⟨(sum_tally_pos h).1, .inr ⟨?_, (sum_tally_pos h).2⟩⟩
    by_contra hb
    have he : (Finset.univ.filter fun j : Fin 7 => b ≤ j.val) = ∅ := by
      ext j; simp only [Finset.mem_filter, Finset.mem_univ, true_and, Finset.notMem_empty, iff_false]; have := j.isLt; omega
    unfold oweB at h; rw [he, Finset.sum_empty] at h
    exact Nat.lt_irrefl 0 h

/-- At the plain index a device may wait on any semaphore, whatever it owes; on its barrier once its signals are paid. -/
theorem mayWait_low (c : Dev nD) (s : SemLoc sig) (a b : ℕ) : (levAts L lv : sProp 𝕄) ⊢ MayWait (c : Thread nD τ) s none (owe c a b) :=
  MayOwe.of_cut (L := L) (lev := lv) 0 (fun p hp => by rw [Finset.mem_singleton.mp hp, L_tc]; exact Finset.mem_univ _)
    (fun g u hg => by obtain ⟨rfl, ⟨i, rfl⟩ | ⟨_, i, rfl⟩⟩ := owe_pos hg <;> exact Finset.mem_univ _)
    (fun p hp => by rw [Finset.mem_singleton.mp hp]; exact le_of_eq rfl)
    (fun g u hg => by
      obtain ⟨rfl, ⟨i, rfl⟩ | ⟨_, i, rfl⟩⟩ := owe_pos hg
      · rw [lv_recv]; decide
      · rw [lv_bar]; decide)

theorem mayWait_bar (c : Dev nD) (a : ℕ) : (levAts L lv : sProp 𝕄) ⊢ MayWait (c : Thread nD τ) (.reg barS) (some ()) (owe c a 7) :=
  MayOwe.of_cut (L := L) (lev := lv) 1 (fun p hp => by rw [Finset.mem_singleton.mp hp, L_tc]; exact Finset.mem_univ _)
    (fun g u hg => by obtain ⟨rfl, ⟨i, rfl⟩ | ⟨_, i, rfl⟩⟩ := owe_pos hg <;> exact Finset.mem_univ _)
    (fun p hp => by rw [Finset.mem_singleton.mp hp]; exact le_of_eq (lv_bar c))
    (fun g u hg => by
      obtain ⟨rfl, ⟨i, rfl⟩ | ⟨hb, _⟩⟩ := owe_pos hg
      · rw [lv_recv]; decide
      · exact absurd hb (Nat.lt_irrefl 7))

end Cert.Fused

end
-- ==== Proof.Steps.lean ====
/-
  The steps a device takes in the exchange, each once for any peer number: signal a peer, wait for the seven signals,
  send a block, wait for a block, wait for a sent block to be out, and read the counter of a cell that is done.
-/
module

public import proofs.«01_k».proof.Proof.Cells

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Option Unit) (Elt F) ℕ UU ℕ

variable (m : (ℓ : Loc nD τ sig) → Buf (Elt F) ℓ)

abbrev 𝒱₀ : Variants := Variants.none

/-- What every device knows: the invariant of every cell, and that every cell's round has opened. -/
def records (K : Dev nD × Kx → ℕ) : sProp 𝕄 :=
  iprop((bigSep Finset.univ fun ck : Dev nD × Kx => cellInv EX (exch m) (K ck) (kcell ck))
    ∗ bigSep Finset.univ fun ck : Dev nD × Kx => reached EX (kcell ck) 0)

instance records_persistent (K : Dev nD × Kx → ℕ) : BI.Persistent (records m K) := by unfold records; infer_instance

theorem inv_at (K : Dev nD × Kx → ℕ) (ck : Dev nD × Kx) : records m K ⊢ cellInv EX (exch m) (K ck) (kcell ck) := by
  have h : (bigSep Finset.univ fun ck : Dev nD × Kx => (cellInv EX (exch m) (K ck) (kcell ck) : sProp 𝕄)) ⊢ cellInv EX (exch m) (K ck) (kcell ck) :=
    bigSep_elim (Finset.mem_univ ck)
  unfold records; iintro ⟨H, -⟩
  iapply h; iexact H

theorem reached_at (K : Dev nD × Kx → ℕ) (ck : Dev nD × Kx) : records m K ⊢ reached EX (kcell ck) 0 := by
  have h : (bigSep Finset.univ fun ck : Dev nD × Kx => (reached EX (kcell ck) 0 : sProp 𝕄)) ⊢ reached EX (kcell ck) 0 := bigSep_elim (Finset.mem_univ ck)
  unfold records; iintro ⟨-, H⟩
  iapply h; iexact H

variable (K : Dev nD × Kx → ℕ) (c : Dev nD)

/-- Signal number `i`: one unit to the barrier of `up c i`, handing over the slot of the own receive buffer that peer writes. -/
theorem signal_step {α : Type} {Q : α → sProp 𝕄} {k : PUnit → Prog (TpuEff nD τ sig (Elt F) Λ₀ .tc) α} {W : Waits sig (Option Unit)} (i : Fin 7) (n : Dev nD) (hn : n = up c i) (a b b' : ℕ) (hb : b = i.val ∧ b' = i.val + 1 := by decide) :
    records m K ⊢ iprop(owes (c : Thread nD τ) (owe c a b) W -∗ dutyTok EX (barCell (up c i)) 0 i -∗ (∃ f, rPts c (rev i) f)
      -∗ (owes (c : Thread nD τ) (owe c a b') W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toInt) k) Q) := by
  obtain ⟨rfl, rfl⟩ := hb
  subst hn
  iintro #HR HO Ht Hs
  iapply (Rounds.wp_signal 𝒱₀ EX (exch m) (c : Thread nD τ) none (dst := (up c i : Thread nD τ)) (κ := K (up c i, .inl ())) (r := 0) (d := i)
    (by rw [duties_bar]; exact Finset.mem_univ _) ((amount_bar m (up c i) i).trans (by decide)) (some ()) (owe c a (i.val + 1)) (owe_signal c i a))
  isplitr; · iapply (inv_at m K (up c i, .inl ())); iexact HR
  isplitl [HO]; · iexact HO
  isplitl [Ht]; · iexact Ht
  isplitl [Hs]; · rw [payload_bar]; unfold barPay; rw [up_up_rev]; iexact Hs
  iapply (reached_at m K (up c i, .inl ())); iexact HR

/-- The wait for the seven signals: every peer's slot. -/
theorem barrier_step {α : Type} {Q : α → sProp 𝕄} {k : PUnit → Prog (TpuEff nD τ sig (Elt F) Λ₀ .tc) α} {W : Waits sig (Option Unit)} (a : ℕ) :
    records m K ⊢ iprop(levAts L lv -∗ cred (tallyAt (barCell c) (some ()) 7) -∗ owes (c : Thread nD τ) (owe c a 7) W -∗ atPos EX (barCell c) 0 ∅ 0
      -∗ ((∃ W', owes (c : Thread nD τ) (owe c a 7) W') ∗ atPos EX (barCell c) 1 ∅ 0 ∗ (bigSep Finset.univ fun i : Fin 7 => iprop(∃ f, rPts (up c i) i f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toInt) k) Q) := by
  iintro #HR #Hlev Hc HO Hat Hk
  iapply (Rounds.wp_wait_rest_token 𝒱₀ EX (exch m) (c : Thread nD τ) none (κ := K (c, .inl ()))
    (wpE_semWait_eq 𝒱₀ (c : Thread nD τ) none Set.univ) (Set.mem_univ _) (some ()) (O := owe c a 7) (W := W) (R := 0) (m := 0) (T := ∅)
    (by rw [expect_bar]; decide)) $$ [Hc HO Hat]
  · isplitr; · iapply (inv_at m K (c, .inl ())); iexact HR
    isplitl [Hc]; · iexact Hc
    isplitl [HO]; · iexact HO
    isplitr; · iapply (mayWait_bar c a); iexact Hlev
    iexact Hat
  iintro ⟨HO, Hat, -, Hpay⟩
  iapply Hk
  isplitl [HO]; · iexists _; iexact HO
  isplitl [Hat]; · iexact Hat
  iapply (Entails.of_eq (rest_bar m c)); iexact Hpay

/-- Send number `i`: the own block to slot `i` of `up c i`, which this device was handed. -/
theorem send_step {α : Type} {Q : α → sProp 𝕄} {k : PUnit → Prog (TpuEff nD τ sig (Elt F) Λ₀ .tc) α} {W : Waits sig (Option Unit)} (i : Fin 7) (n : Dev nD) (hn : n = up c i) (a a' b : ℕ) {fs fd}
    (hfs : (slotS i).view.read (Elt F) fs = sent m c i) (ha : a = i.val ∧ a' = i.val + 1 := by decide)
    {hsc : (slotR i : Memref sig (Dev.tc n : Thread nD τ).2.kind .vmem S512x1024 .bf16).view.ref.isScScratch = false}
    {hsrc : (slotS i : Memref sig .tc .vmem S512x1024 .bf16).view.WordExact} {hdst : (slotR i : Memref sig .tc .vmem S512x1024 .bf16).view.WordExact}
    {hsem : DmaTarget.Typed .vmem (.dma (recvS i)) (.remote (Dev.tc n : Thread nD τ) (slotR i : Memref sig .tc .vmem S512x1024 .bf16) (.dma (sendS i)) hsc)} :
    records m K ⊢ iprop(owes (c : Thread nD τ) (owe c a b) W -∗ dutyTok EX (sendCell c i) 0 0 -∗ dutyTok EX (recvCell (up c i) i) 0 0
      -∗ ((slotS i).view.loc (c : Thread nD τ) ↦[(slotS i).view.set]{fullShare} fs) -∗ rPts (up c i) i fd
      -∗ (cred (tallyAt (sendCell c i) (some ()) N) ∗ owes (c : Thread nD τ) (owe c a' b) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotS i) (.remote (Dev.tc n : Thread nD τ) (slotR i) (.dma (sendS i)) hsc) (.dma (recvS i)) hsrc hdst hsem) k) Q) := by
  obtain ⟨rfl, rfl⟩ := ha
  subst hn
  iintro #HR HO Ht Ht' Hs Hd
  unfold rPts
  iapply (Rounds.wp_send_pointsTo 𝒱₀ EX (exch m) (c : Thread nD τ) none (κ₁ := K (c, .inr (.inl i))) (κ₂ := K (up c i, .inr (.inr i)))
    (r₁ := 0) (r₂ := 0) (d₁ := 0) (d₂ := 0) (fs := fs) (fd := fd)
    (by rw [duties_send]; exact Finset.mem_singleton_self _) (by rw [duties_recv]; exact Finset.mem_singleton_self _)
    (some ()) (some ()) N rfl (amount_send m c i 0) (amount_recv m (up c i) i 0) (owe c (i.val + 1) b) (owe_send c i b) (W := W)
    (by rw [payload_send]; unfold sendPay sPts; iintro H; iexists fs; iexact H)
    (by
      rw [payload_recv]; unfold recvPay rPts; rw [dn_up, hfs]
      iintro H; iexists _
      isplitr
      rotate_left
      · iexact H
      · ipureintro; exact View.read_write_univ _ _))
  isplitr; · iapply (inv_at m K (c, .inr (.inl i))); iexact HR
  isplitr; · iapply (inv_at m K (up c i, .inr (.inr i))); iexact HR
  isplitl [Hs]; · iexact Hs
  isplitl [Hd]; · iexact Hd
  isplitl [HO]; · iexact HO
  isplitl [Ht]; · iexact Ht
  isplitr; · iapply (reached_at m K (c, .inr (.inl i))); iexact HR
  isplitl [Ht']; · iexact Ht'
  iapply (reached_at m K (up c i, .inr (.inr i))); iexact HR

/-- The wait for block `i`: the slot, holding what `dn c i` sent. -/
theorem recv_step {α : Type} {Q : α → sProp 𝕄} {k : PUnit → Prog (TpuEff nD τ sig (Elt F) Λ₀ .tc) α} {W : Waits sig (Option Unit)} (i : Fin 7) (hsrc : (slotS i : Memref sig .tc .vmem S512x1024 .bf16).view.WordExact) (hdst : (slotR i : Memref sig .tc .vmem S512x1024 .bf16).view.WordExact) :
    records m K ⊢ iprop(cred (tallyAt (recvCell c i) (some ()) N) -∗ owes (c : Thread nD τ) 0 W -∗ atPos EX (recvCell c i) 0 ∅ 0
      -∗ ((∃ W', owes (c : Thread nD τ) 0 W') ∗ atPos EX (recvCell c i) 1 ∅ 0
              ∗ (∃ f, ⌜(slotR i).view.read (Elt F) f = sent m (dn c i) i⌝ ∗ (slotR i).view.loc (c : Thread nD τ) ↦[(slotR i).view.set]{fullShare} f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) (slotS i) (slotR i) hsrc hdst) k) Q) := by
  iintro #HR Hc HO Hat Hk
  iapply (Rounds.wp_wait_rest_token 𝒱₀ EX (exch m) (c : Thread nD τ) none (κ := K (c, .inr (.inr i)))
    (wpE_waitDma2_eq 𝒱₀ (c : Thread nD τ) none Set.univ) (Set.mem_univ _) (some ()) (O := 0) (W := W) (R := 0) (m := 0) (T := ∅)
    (by rw [Nat.zero_add, expect_recv])) $$ [Hc HO Hat]
  · isplitr; · iapply (inv_at m K (c, .inr (.inr i))); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  ihave Hpay := (Entails.of_eq (rest_recv m c i)) $$ Hpay
  unfold recvPay rPts; iexact Hpay

/-- The wait for send `i` to be out: the own slot back. -/
theorem sent_step {α : Type} {Q : α → sProp 𝕄} {k : PUnit → Prog (TpuEff nD τ sig (Elt F) Λ₀ .tc) α} {W : Waits sig (Option Unit)} (i : Fin 7) (hsrc : (slotR i : Memref sig .tc .vmem S512x1024 .bf16).view.WordExact) (hdst : (slotS i : Memref sig .tc .vmem S512x1024 .bf16).view.WordExact) :
    records m K ⊢ iprop(cred (tallyAt (sendCell c i) (some ()) N) -∗ owes (c : Thread nD τ) 0 W -∗ atPos EX (sendCell c i) 0 ∅ 0
      -∗ ((∃ W', owes (c : Thread nD τ) 0 W') ∗ atPos EX (sendCell c i) 1 ∅ 0
              ∗ (∃ f, (slotS i).view.loc (c : Thread nD τ) ↦[(slotS i).view.set]{fullShare} f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) (slotR i) (slotS i) hsrc hdst) k) Q) := by
  iintro #HR Hc HO Hat Hk
  iapply (Rounds.wp_wait_rest_token 𝒱₀ EX (exch m) (c : Thread nD τ) none (κ := K (c, .inr (.inl i)))
    (wpE_waitDma2_eq 𝒱₀ (c : Thread nD τ) none Set.univ) (Set.mem_univ _) (some ()) (O := 0) (W := W) (R := 0) (m := 0) (T := ∅)
    (by rw [Nat.zero_add, expect_send])) $$ [Hc HO Hat]
  · isplitr; · iapply (inv_at m K (c, .inr (.inl i))); iexact HR
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  ihave Hpay := (Entails.of_eq (rest_send m c i)) $$ Hpay
  unfold sendPay sPts; iexact Hpay

/-- A cell whose round is over: its counter, at zero. -/
theorem done_step (k : Kx) : iprop(records m K ∗ atPos EX (kcell (c, k)) 1 ∅ 0) ⊢ iprop(|={Set.univ}=> semVal (kcell (c, k)) 0 : sProp 𝕄) := by
  iintro ⟨#HR, Hat⟩
  iapply (Rounds.cell_close EX (exch m) (Set.mem_univ (K (c, k))) (fun h => h) (R := 1) (duties_later m (kcell (c, k))))
  isplitr; · iapply (inv_at m K (c, k)); iexact HR
  iexact Hat

theorem beside_all {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ := by
  have h1 : iprop((bigSep S fun _ => R) ∗ bigSep S Φ) ⊢ bigSep S Ψ := by rw [← bigSep_sep']; exact bigSep_mono h
  exact (sep_mono_left (BI.bigSep_of_persistent S R)).trans h1

/-- All the cells of a device, when the exchange is over. -/
theorem done_all : iprop(records m K ∗ bigSep Finset.univ fun k : Kx => atPos EX (kcell (c, k)) 1 ∅ 0)
    ⊢ iprop(|={Set.univ}=> bigSep Finset.univ fun k : Kx => semVal (kcell (c, k)) 0 : sProp 𝕄) :=
  (beside_all (R := records m K) fun k _ => done_step m K c k).trans (bigSep_fupd _ _)

omit [FloatOps F] in
/-- The cells of a device, kind by kind. -/
theorem kinds (Φ : Kx → sProp 𝕄) : bigSep Finset.univ Φ
    = iprop(Φ (.inl ()) ∗ (bigSep Finset.univ fun i : Fin 7 => Φ (.inr (.inl i))) ∗ bigSep Finset.univ fun i : Fin 7 => Φ (.inr (.inr i))) := by
  have h1 : bigSep Finset.univ Φ = iprop((bigSep Finset.univ fun a : Unit => Φ (.inl a)) ∗ (bigSep Finset.univ fun b => Φ (.inr b))) := BI.bigSep_univ_sum Φ
  have h2 : (bigSep Finset.univ fun b => Φ (.inr b)) = iprop((bigSep Finset.univ fun i : Fin 7 => Φ (.inr (.inl i))) ∗ bigSep Finset.univ fun i : Fin 7 => Φ (.inr (.inr i))) :=
    BI.bigSep_univ_sum fun b => Φ (.inr b)
  rw [h1, h2, show (Finset.univ : Finset Unit) = {()} from rfl, bigSep_singleton]

end Cert.Fused

end
-- ==== Proof.Values.lean ====
/-
  What the buffers of one step hold, read: the landed weight columns, the narrowed columns, the stored tile, the block
  of two tiles ready to be sent, and the result buffer row block by row block. Each once, for any half and any slot.
-/
module

public import proofs.«01_k».proof.Proof.Cells
public import Idealize.ShloMosaic.Lib.Pipeline.FrameBody
public import Idealize.ShloMosaic.Lib.Pipeline.Value
public import Idealize.ShloMosaic.Lib.WritesUnit

@[expose] public section

noncomputable section

namespace Cert.Fused

open Cert.KernelIdeal Cert.KernelIdeal.Gen
open Idealize.ShloMosaic Idealize.ShloMosaic.TcCoe

variable {F : FTy → Type} [FloatOps F]

variable (m : (ℓ : Loc nD τ sig) → Buf (Elt F) ℓ)

/-! ## Weights -/

theorem box_inb (b : Fin 2) : ∀ a, (![b.val, 0, 0] : Fin 3 → Nat) a + S1x4096x512.size a ≤ S2x4096x512.size a := by revert b; decide
/-- Half `b` of a buffer of two column blocks. -/
abbrev boxW (b : Fin 2) : Rect S2x4096x512 := Rect.unit (s := S2x4096x512) ![b.val, 0, 0] S1x4096x512.size (box_inb b)
/-- Half `b` of the landing buffer of the weights. -/
abbrev slotW (b : Fin 2) : Memref sig .tc .vmem S4096x512 .f32 :=
  ((Memref.whole cc0_scratch0).slice (boxW b) (fun _ => rfl)).squeeze S4096x512 squeezes_S1x4096x512_S4096x512

/-- Reading half `b` after a copy landed there. -/
theorem landed (b : Fin 2) (f : (slotW b).view.ty.Contents (Elt F)) (d : S4096x512.Idx → Elt F .f32) (ps) :
    shapeCast S4096x512 ((Memref.whole cc0_scratch0).view.readAt (Elt F) (boxW b).toLoadRect
        ((slotW b).view.writes (Elt F) f (⟨Rect.whole S4096x512, d⟩ :: ps))) shapeCasts_S1x4096x512_S4096x512 = d := by
  show (slotW b).view.read (Elt F) ((slotW b).view.writes (Elt F) f (⟨Rect.whole S4096x512, d⟩ :: ps)) = d
  funext x
  have e := View.read_writes_cons_emb (slotW b).view f (Rect.whole S4096x512) d ps x
  rw [Rect.emb_whole_apply] at e
  exact e

/-- A stored tile: the step's tile narrowed, as a block of one. -/
abbrev pack (u : FVec F S512x512 .f32) : FVec F S1x512x512 .bf16 := shapeCast S1x512x512 (truncf .bf16 u bitsLt_bf16_f32) shapeCasts_S512x512_S1x512x512

/-- The step's tile before it is narrowed, from the rows and the narrowed columns as loaded. -/
def tileRaw (s : F .f32) (x : Vec F S512x4096 .f32) (w : Vec F S1x4096x512 .fp8e5m2) : FVec F S512x512 .f32 :=
  let y : FVec F S512x512 .f32 := mulf (matmul dot_S512x4096_S4096x512_S512x512_1_0_0_1_n_n none
    (truncf .fp8e5m2 (shapeCast S512x4096 x shapeCasts_S512x4096_S512x4096) bitsLt_fp8e5m2_f32)
    (shapeCast S4096x512 w shapeCasts_S1x4096x512_S4096x512) (constant S512x512 .f32 0x00000000#32)) (broadcast S512x512 s)
  mulf y (logistic y)

/-- One step: the columns landed in half `b`, narrowed into half `b` of the second buffer, loaded back and multiplied. -/
theorem step_tile (b : Fin 2) (s : F .f32) (x : (cc0_stg0_0 : Ref sig .tc).ty.Contents (Elt F)) (f : (slotW b).view.ty.Contents (Elt F)) (d : S4096x512.Idx → Elt F .f32) (ps ps') :
    tileRaw s ((Memref.whole cc0_stg0_0).view.readAt (Elt F) (Rect.unit ![0, 0] S512x4096.size inb_S512x4096_S512x4096_0_0).toLoadRect x)
      ((Memref.whole cc0_scratch1).view.readCov (Val := Elt F)
        (⟨boxW b, k0_pay2 ((Memref.whole cc0_scratch0).view.readAt (Elt F) (boxW b).toLoadRect ((slotW b).view.writes (Elt F) f (⟨Rect.whole S4096x512, d⟩ :: ps)))⟩ :: ps') (boxW b).toLoadRect)
      = tileOf s x d := by
  have hx : (Memref.whole cc0_stg0_0).view.readAt (Elt F) (Rect.unit ![0, 0] S512x4096.size inb_S512x4096_S512x4096_0_0).toLoadRect x = x :=
    Memref.readAt_unit_zero (Elt F) cc0_stg0_0 (by decide) _ x
  rw [View.readCov_cons_toLoadRect, hx]
  unfold tileRaw tileOf k0_pay2
  dsimp only
  rw [shapeCast_self, shapeCast_shapeCast, landed b f d ps]

/-- The product of the scales as loaded. -/
theorem scale_read (c : Dev nD) :
    k0_pay1 ((Memref.whole cc0_stg1_0).view.readAt (Elt F) (Rect.unit ![0] S1.size inb_S1_S1_0).toLoadRect (sxAt m c) (Shape.Idx.first (by decide)))
      ((Memref.whole cc0_stg2_0).view.readAt (Elt F) (Rect.unit ![0] S1.size inb_S1_S1_0).toLoadRect (swAt m c) (Shape.Idx.first (by decide))) = sAt m c := by
  rw [show (Memref.whole cc0_stg1_0).view.readAt (Elt F) (Rect.unit ![0] S1.size inb_S1_S1_0).toLoadRect (sxAt m c) = sxAt m c from Memref.readAt_unit_zero (Elt F) cc0_stg1_0 (by decide) _ _,
    show (Memref.whole cc0_stg2_0).view.readAt (Elt F) (Rect.unit ![0] S1.size inb_S1_S1_0).toLoadRect (swAt m c) = swAt m c from Memref.readAt_unit_zero (Elt F) cc0_stg2_0 (by decide) _ _]
  rfl

/-- The tile device `c` stores at step `(t, h)`. -/
theorem step_pack (c : Dev nD) (t : Fin 8) (h : Fin 2) {s : F .f32} (hs : s = sAt m c) (f : (slotW h).view.ty.Contents (Elt F)) (ps ps') :
    pack (tileRaw s ((Memref.whole cc0_stg0_0).view.readAt (Elt F) (Rect.unit ![0, 0] S512x4096.size inb_S512x4096_S512x4096_0_0).toLoadRect (xAt m c))
      ((Memref.whole cc0_scratch1).view.readCov (Val := Elt F)
        (⟨boxW h, k0_pay2 ((Memref.whole cc0_scratch0).view.readAt (Elt F) (boxW h).toLoadRect ((slotW h).view.writes (Elt F) f (⟨Rect.whole S4096x512, wTile m c t h⟩ :: ps)))⟩ :: ps') (boxW h).toLoadRect))
      = pack (tileAt m c t h) := by
  rw [step_tile, hs]; rfl

/-! ## The block ready to be sent -/

theorem tile_inb0 (i : Fin 7) : ∀ a, (![i.val, 0, 0] : Fin 3 → Nat) a + S1x512x512.size a ≤ S7x512x1024.size a := by revert i; decide
theorem tile_inb1 (i : Fin 7) : ∀ a, (![i.val, 0, 512] : Fin 3 → Nat) a + S1x512x512.size a ≤ S7x512x1024.size a := by revert i; decide

/-- Slot `i` after its two tiles are stored: the block `sent` under number `i`. -/
theorem stored_block (c : Dev nD) (i : Fin 7) (f : (Memref.whole cc0_scratch2 : Memref sig .tc .vmem S7x512x1024 .bf16).view.ty.Contents (Elt F)) {A B : FVec F S1x512x512 .bf16}
    (hA : A = pack (tileAt m c i.castSucc 0)) (hB : B = pack (tileAt m c i.castSucc 1)) :
    (slotS i).view.read (Elt F)
      (View.write (Elt F) ((Memref.whole cc0_scratch2).access (Rect.unit (s := S7x512x1024) ![i.val, 0, 512] S1x512x512.size (tile_inb1 i)))
        (View.write (Elt F) ((Memref.whole cc0_scratch2).access (Rect.unit (s := S7x512x1024) ![i.val, 0, 0] S1x512x512.size (tile_inb0 i))) f A Finset.univ) B Finset.univ)
      = sent m c i := by
  subst hA hB
  funext j
  have hj0 : (j 0).val < 512 := (j 0).isLt
  have hj1 : (j 1).val < 1024 := (j 1).isLt
  let y : S7x512x1024.Idx := (Rect.unit (s := S7x512x1024) ![i.val, 0, 0] S1x512x1024.size (slot_inb i)).emb (Fin.cons ⟨0, Nat.one_pos⟩ j)
  have hread : ∀ g, (slotS i).view.read (Elt F) g j = (Memref.whole cc0_scratch2 : Memref sig .tc .vmem S7x512x1024 .bf16).view.read (Elt F) g y := fun g =>
    shapeCast_dropUnit_apply ![512, 1024] (fun k => (Memref.whole cc0_scratch2 : Memref sig .tc .vmem S7x512x1024 .bf16).view.read (Elt F) g
      ((Rect.unit (s := S7x512x1024) ![i.val, 0, 0] S1x512x1024.size (slot_inb i)).emb k)) (by decide) j
  rw [hread]
  have hy0 : (y 0).val = i.val := by show i.val + 1 * 0 = i.val; omega
  have hy1 : (y 1).val = (j 0).val := by show 0 + 1 * (j 0).val = (j 0).val; omega
  have hy2 : (y 2).val = (j 1).val := by show 0 + 1 * (j 1).val = (j 1).val; omega
  by_cases h : (j 1).val < 512
  · refine (View.read_writes_cons_unit_of_not_mem _ f (tile_inb1 i) _ [⟨Rect.unit (s := S7x512x1024) ![i.val, 0, 0] S1x512x512.size (tile_inb0 i), pack (tileAt m c i.castSucc 0)⟩] y rfl 2 (.inl (by rw [hy2]; exact h))).trans ?_
    refine (View.read_writes_cons_unit_of_mem _ f (tile_inb0 i) _ [] y (Fin.cons ⟨0, Nat.one_pos⟩ (inHalf j)) rfl (fun a => ?_)).trans ?_
    · fin_cases a
      · exact hy0
      · exact hy1.trans (Nat.zero_add _).symm
      · exact hy2.trans ((Nat.mod_eq_of_lt h).symm.trans (Nat.zero_add _).symm)
    · have hh : half j = 0 := Fin.ext (Nat.div_eq_of_lt h)
      unfold sent; rw [hh]
      exact shapeCast_addUnit_apply ![512, 512] (truncf .bf16 (tileAt m c i.castSucc _) bitsLt_bf16_f32) shapeCasts_S512x512_S1x512x512 (Fin.cons ⟨0, Nat.one_pos⟩ (inHalf j))
  · refine (View.read_writes_cons_unit_of_mem _ f (tile_inb1 i) _ [⟨Rect.unit (s := S7x512x1024) ![i.val, 0, 0] S1x512x512.size (tile_inb0 i), pack (tileAt m c i.castSucc 0)⟩] y (Fin.cons ⟨0, Nat.one_pos⟩ (inHalf j)) rfl (fun a => ?_)).trans ?_
    · fin_cases a
      · exact hy0
      · exact hy1.trans (Nat.zero_add _).symm
      · refine hy2.trans ?_
        show (j 1).val = 512 + (j 1).val % 512
        omega
    · have hh : half j = 1 := Fin.ext (by show (j 1).val / 512 = 1; omega)
      unfold sent; rw [hh]
      exact shapeCast_addUnit_apply ![512, 512] (truncf .bf16 (tileAt m c i.castSucc _) bitsLt_bf16_f32) shapeCasts_S512x512_S1x512x512 (Fin.cons ⟨0, Nat.one_pos⟩ (inHalf j))

/-! ## The result buffer -/

/-- The whole result buffer. -/
abbrev outM : Memref sig .tc .vmem S4096x1024 .f32 := Memref.whole cc0_stg3_0

set_option backward.proofsInPublic true in
/-- The row block a place of the result lies in. -/
def rowBlock (y : S4096x1024.Idx) : Dev nD := ⟨(y 0).val / 512, Nat.div_lt_of_lt_mul (y 0).isLt⟩
set_option backward.proofsInPublic true in
/-- Its place there. -/
def inRows (y : S4096x1024.Idx) : S512x1024.Idx := fun a => ⟨if a.val = 0 then (y 0).val % 512 else (y 1).val, by
  have h0 : (y 0).val % 512 < 512 := Nat.mod_lt _ (by decide)
  have h1 : (y 1).val < 1024 := (y 1).isLt
  fin_cases a <;> simpa using by assumption⟩
/-- How many places up the ring from `d` to `c`. -/
def steps (d c : Dev nD) : ℕ := (c.val + 8 - d.val) % 8

theorem steps_lt (d c : Dev nD) : steps d c - 1 < 7 := by revert d c; decide
theorem steps_self (c : Dev nD) : steps c c = 0 := by revert c; decide
theorem steps_dn (c : Dev nD) (i : Fin 7) : steps (dn c i) c = i.val + 1 := by revert c i; decide
theorem self_or_dn (d c : Dev nD) : d = c ∨ ∃ i : Fin 7, d = dn c i := by revert d c; decide

set_option backward.proofsInPublic true in
/-- Row block `d` of the result on device `c`: the block `d` sent to `c`, or `c`'s own two tiles, which were never narrowed. -/
def blockAt (c d : Dev nD) : S512x1024.Idx → Elt F .f32 := fun j =>
  if steps d c = 0 then tileAt m c 7 (half j) (inHalf j)
  else (extf .f32 (sent m d ⟨steps d c - 1, steps_lt d c⟩ : FVec F S512x1024 .bf16) bitsLt_bf16_f32 : FVec F S512x1024 .f32) j

theorem blockAt_self (c : Dev nD) (j : S512x1024.Idx) : blockAt m c c j = tileAt m c 7 (half j) (inHalf j) := by
  unfold blockAt; rw [if_pos (steps_self c)]
theorem blockAt_dn (c : Dev nD) (i : Fin 7) (j : S512x1024.Idx) :
    blockAt m c (dn c i) j = (extf .f32 (sent m (dn c i) i : FVec F S512x1024 .bf16) bitsLt_bf16_f32 : FVec F S512x1024 .f32) j := by
  have hi : (⟨steps (dn c i) c - 1, steps_lt _ _⟩ : Fin 7) = i := Fin.ext (by show steps (dn c i) c - 1 = i.val; rw [steps_dn]; omega)
  unfold blockAt
  rw [if_neg (by rw [steps_dn]; omega), hi]

/-- What the result holds on device `c`. -/
def outAt (c : Dev nD) : (cc0_stg3_0 : Ref sig .tc).ty.Contents (Elt F) := fun y => blockAt m c (rowBlock y) (inRows y)

theorem off4_eq : ∀ (c : Dev nD) (i : Fin 7), k0_off4 c (BitVec.ofNat 32 (1 + i.val)) = ![512 * (dn c i).val, 0] := by decide +kernel

/-- A received piece. -/
abbrev pieceR (c : Dev nD) (i : Fin 7) (w : FVec F S512x1024 .f32) : View.Piece (Elt F) S4096x1024 .f32 :=
  ⟨Rect.unit (s := S4096x1024) (k0_off4 c (BitVec.ofNat 32 (1 + i.val))) S512x1024.size (k0_off4_inb c i), w⟩

theorem rows_at {d : Dev nD} (x : S512x1024.Idx) (y : S4096x1024.Idx) (h0 : (y 0).val = 512 * d.val + (x 0).val) (h1 : (y 1).val = (x 1).val) :
    rowBlock y = d ∧ inRows y = x := by
  have hx : (x 0).val < 512 := (x 0).isLt
  refine ⟨Fin.ext ?_, funext fun a => Fin.ext ?_⟩
  · show (y 0).val / 512 = d.val
    omega
  · fin_cases a
    · show (y 0).val % 512 = (x 0).val
      omega
    · exact h1

theorem outAt_recv (c : Dev nD) (i : Fin 7) (x : S512x1024.Idx) (y : S4096x1024.Idx) (h0 : (y 0).val = 512 * (dn c i).val + (x 0).val) (h1 : (y 1).val = (x 1).val) :
    outAt m c y = (extf .f32 (sent m (dn c i) i : FVec F S512x1024 .bf16) bitsLt_bf16_f32 : FVec F S512x1024 .f32) x := by
  obtain ⟨hd, hj⟩ := rows_at x y h0 h1
  unfold outAt
  rw [hd, hj, blockAt_dn]

theorem outAt_own (c : Dev nD) (h : Fin 2) (x : S512x512.Idx) (y : S4096x1024.Idx) (h0 : (y 0).val = 512 * c.val + (x 0).val) (h1 : (y 1).val = 512 * h.val + (x 1).val) :
    outAt m c y = tileAt m c 7 h x := by
  have hx0 : (x 0).val < 512 := (x 0).isLt
  have hx1 : (x 1).val < 512 := (x 1).isLt
  have hy1 : (y 1).val < 1024 := (y 1).isLt
  have hd : rowBlock y = c := Fin.ext (by show (y 0).val / 512 = c.val; omega)
  have hh : half (inRows y) = h := Fin.ext (by show (y 1).val / 512 = h.val; omega)
  have hi : inHalf (inRows y) = x := funext fun a => Fin.ext (by
    fin_cases a
    · show (y 0).val % 512 = (x 0).val
      omega
    · show (y 1).val % 512 = (x 1).val
      omega)
  unfold outAt
  rw [hd, blockAt_self, hh, hi]

/-- The two own pieces. -/
abbrev pieceA (c : Dev nD) (w : FVec F S512x512 .f32) : View.Piece (Elt F) S4096x1024 .f32 := ⟨Rect.unit (s := S4096x1024) (k0_off2 c) S512x512.size (k0_off2_inb c), w⟩
abbrev pieceB (c : Dev nD) (w : FVec F S512x512 .f32) : View.Piece (Elt F) S4096x1024 .f32 := ⟨Rect.unit (s := S4096x1024) (k0_off3 c) S512x512.size (k0_off3_inb c), w⟩

/-- The nine stores, the newest first. -/
abbrev outPieces (c : Dev nD) (p : Fin 7 → FVec F S512x1024 .f32) (A B : FVec F S512x512 .f32) : List (View.Piece (Elt F) S4096x1024 .f32) :=
  [pieceR c 6 (p 6), pieceR c 5 (p 5), pieceR c 4 (p 4), pieceR c 3 (p 3), pieceR c 2 (p 2), pieceR c 1 (p 1), pieceR c 0 (p 0), pieceB c B, pieceA c A]

theorem agreeR (c : Dev nD) (i : Fin 7) (x : S512x1024.Idx) :
    (extf .f32 (sent m (dn c i) i : FVec F S512x1024 .bf16) bitsLt_bf16_f32 : FVec F S512x1024 .f32) x
      = outAt m c ((Rect.unit (s := S4096x1024) (k0_off4 c (BitVec.ofNat 32 (1 + i.val))) S512x1024.size (k0_off4_inb c i)).emb x) := by
  refine (outAt_recv m c i x _ ?_ ?_).symm
  · show k0_off4 c (BitVec.ofNat 32 (1 + i.val)) 0 + 1 * (x 0).val = _
    rw [off4_eq, Nat.one_mul]; rfl
  · show k0_off4 c (BitVec.ofNat 32 (1 + i.val)) 1 + 1 * (x 1).val = _
    rw [off4_eq, Nat.one_mul]; exact Nat.zero_add _

theorem agreeA (c : Dev nD) (x : S512x512.Idx) :
    tileAt m c 7 0 x = outAt m c ((Rect.unit (s := S4096x1024) (k0_off2 c) S512x512.size (k0_off2_inb c)).emb x) := by
  refine (outAt_own m c 0 x _ ?_ ?_).symm
  · show k0_off2 c 0 + 1 * (x 0).val = _
    rw [k0_off2_eq, Nat.one_mul]; rfl
  · show k0_off2 c 1 + 1 * (x 1).val = _
    rw [k0_off2_eq, Nat.one_mul]; rfl

theorem agreeB (c : Dev nD) (x : S512x512.Idx) :
    tileAt m c 7 1 x = outAt m c ((Rect.unit (s := S4096x1024) (k0_off3 c) S512x512.size (k0_off3_inb c)).emb x) := by
  refine (outAt_own m c 1 x _ ?_ ?_).symm
  · show k0_off3 c 0 + 1 * (x 0).val = _
    rw [k0_off3_eq, Nat.one_mul]; rfl
  · show k0_off3 c 1 + 1 * (x 1).val = _
    rw [k0_off3_eq, Nat.one_mul]; rfl

theorem memR (c : Dev nD) (i : Fin 7) (y : S4096x1024.Idx) (h : rowBlock y = dn c i) :
    y ∈ (Rect.unit (s := S4096x1024) (k0_off4 c (BitVec.ofNat 32 (1 + i.val))) S512x1024.size (k0_off4_inb c i)).set := by
  have hy0 : (y 0).val < 4096 := (y 0).isLt
  have hy1 : (y 1).val < 1024 := (y 1).isLt
  have hm : (y 0).val / 512 = (dn c i).val := congrArg Fin.val h
  refine Rect.mem_set_unit.mpr fun a => ?_
  rw [off4_eq]
  fin_cases a
  · show 512 * (dn c i).val ≤ (y 0).val ∧ (y 0).val < 512 * (dn c i).val + 512
    omega
  · show 0 ≤ (y 1).val ∧ (y 1).val < 0 + 1024
    omega

theorem memA (c : Dev nD) (y : S4096x1024.Idx) (h : rowBlock y = c) (h1 : (y 1).val < 512) :
    y ∈ (Rect.unit (s := S4096x1024) (k0_off2 c) S512x512.size (k0_off2_inb c)).set := by
  have hm : (y 0).val / 512 = c.val := congrArg Fin.val h
  refine Rect.mem_set_unit.mpr fun a => ?_
  rw [k0_off2_eq]
  fin_cases a
  · show 512 * c.val ≤ (y 0).val ∧ (y 0).val < 512 * c.val + 512
    omega
  · show 0 ≤ (y 1).val ∧ (y 1).val < 0 + 512
    omega

theorem memB (c : Dev nD) (y : S4096x1024.Idx) (h : rowBlock y = c) (h1 : ¬ (y 1).val < 512) :
    y ∈ (Rect.unit (s := S4096x1024) (k0_off3 c) S512x512.size (k0_off3_inb c)).set := by
  have hy1 : (y 1).val < 1024 := (y 1).isLt
  have hm : (y 0).val / 512 = c.val := congrArg Fin.val h
  refine Rect.mem_set_unit.mpr fun a => ?_
  rw [k0_off3_eq]
  fin_cases a
  · show 512 * c.val ≤ (y 0).val ∧ (y 0).val < 512 * c.val + 512
    omega
  · show 512 ≤ (y 1).val ∧ (y 1).val < 512 + 512
    omega

/-- A property of the nine pieces. -/
theorem forall_pieces {P : View.Piece (Elt F) S4096x1024 .f32 → Prop} (c : Dev nD) (p : Fin 7 → FVec F S512x1024 .f32) (A B : FVec F S512x512 .f32)
    (hR : ∀ i, P (pieceR c i (p i))) (hA : P (pieceA c A)) (hB : P (pieceB c B)) : ∀ q ∈ outPieces c p A B, P q := by
  unfold outPieces
  iterate 7 refine List.forall_mem_cons.mpr ⟨hR _, ?_⟩
  exact List.forall_mem_cons.mpr ⟨hB, List.forall_mem_cons.mpr ⟨hA, fun q hq => absurd hq List.not_mem_nil⟩⟩

theorem mem_pieces (c : Dev nD) (p : Fin 7 → FVec F S512x1024 .f32) (A B : FVec F S512x512 .f32) (i : Fin 7) : pieceR c i (p i) ∈ outPieces c p A B := by
  unfold outPieces
  fin_cases i
  · iterate 6 apply List.mem_cons_of_mem
    exact List.mem_cons_self
  · iterate 5 apply List.mem_cons_of_mem
    exact List.mem_cons_self
  · iterate 4 apply List.mem_cons_of_mem
    exact List.mem_cons_self
  · iterate 3 apply List.mem_cons_of_mem
    exact List.mem_cons_self
  · iterate 2 apply List.mem_cons_of_mem
    exact List.mem_cons_self
  · apply List.mem_cons_of_mem
    exact List.mem_cons_self
  · exact List.mem_cons_self

theorem cover (c : Dev nD) (p : Fin 7 → FVec F S512x1024 .f32) (A B : FVec F S512x512 .f32) (y : S4096x1024.Idx) :
    ∃ q ∈ outPieces c p A B, y ∈ q.1.set := by
  rcases self_or_dn (rowBlock y) c with hd | ⟨i, hd⟩
  · by_cases h : (y 1).val < 512
    · exact ⟨pieceA c A, by unfold outPieces; iterate 8 apply List.mem_cons_of_mem
                            exact List.mem_cons_self, memA c y hd h⟩
    · exact ⟨pieceB c B, by unfold outPieces; iterate 7 apply List.mem_cons_of_mem
                            exact List.mem_cons_self, memB c y hd h⟩
  · exact ⟨pieceR c i (p i), mem_pieces c p A B i, memR c i y hd⟩

/-- The nine stores into the result leave `outAt`. -/
theorem out_value (c : Dev nD) (fo : outM.view.ty.Contents (Elt F)) (p : Fin 7 → FVec F S512x1024 .f32)
    (hp : ∀ i, p i = extf .f32 (sent m (dn c i) i : FVec F S512x1024 .bf16) bitsLt_bf16_f32) {A B : FVec F S512x512 .f32} (hA : A = tileAt m c 7 0) (hB : B = tileAt m c 7 1) :
    outM.view.read (Elt F) (outM.view.writes (Elt F) fo (outPieces c p A B)) = outAt m c :=
  funext fun y => View.read_writes_apply_of_pieces outM.view fo (outAt m c) _
    (forall_pieces (P := fun q => ∀ x : q.1.shape.Idx, q.2 x = outAt m c (q.1.emb x)) c p A B
      (fun i x => (congrFun (hp i) x).trans (agreeR m c i x)) (fun x => (congrFun hA x).trans (agreeA m c x)) (fun x => (congrFun hB x).trans (agreeB m c x)))
    y (cover c p A B y)

/-- Slot `i` of the receive buffer, loaded and widened. -/
abbrev loadR (i : Fin 7) (f : (slotR i).view.ty.Contents (Elt F)) : FVec F S512x1024 .f32 :=
  extf .f32 (shapeCast S512x1024 ((Memref.whole cc0_scratch3).view.readAt (Elt F) (Rect.unit (s := S7x512x1024) ![i.val, 0, 0] S1x512x1024.size (slot_inb i)).toLoadRect f) shapeCasts_S1x512x1024_S512x1024 : FVec F S512x1024 .bf16) bitsLt_bf16_f32

theorem recv_value (c : Dev nD) (i : Fin 7) {f : (slotR i).view.ty.Contents (Elt F)} (hf : (slotR i).view.read (Elt F) f = sent m (dn c i) i) :
    loadR i f
      = extf .f32 (sent m (dn c i) i : FVec F S512x1024 .bf16) bitsLt_bf16_f32 :=
  congrArg (fun v : FVec F S512x1024 .bf16 => (extf .f32 v bitsLt_bf16_f32 : FVec F S512x1024 .f32)) hf

/-- The tile device `c` keeps. -/
theorem step_keep (c : Dev nD) (t : Fin 8) (h : Fin 2) {s : F .f32} (hs : s = sAt m c) (f : (slotW h).view.ty.Contents (Elt F)) (ps ps') :
    tileRaw s ((Memref.whole cc0_stg0_0).view.readAt (Elt F) (Rect.unit ![0, 0] S512x4096.size inb_S512x4096_S512x4096_0_0).toLoadRect (xAt m c))
      ((Memref.whole cc0_scratch1).view.readCov (Val := Elt F)
        (⟨boxW h, k0_pay2 ((Memref.whole cc0_scratch0).view.readAt (Elt F) (boxW h).toLoadRect ((slotW h).view.writes (Elt F) f (⟨Rect.whole S4096x512, wTile m c t h⟩ :: ps)))⟩ :: ps') (boxW h).toLoadRect)
      = tileAt m c t h := by
  rw [step_tile, hs]; rfl

/-- The block received under number `i`, widened. -/
abbrev got (c : Dev nD) (i : Fin 7) : FVec F S512x1024 .f32 := extf .f32 (sent m (dn c i) i : FVec F S512x1024 .bf16) bitsLt_bf16_f32

/-- The nine stores, the seven received blocks one by one. -/
theorem out_done (c : Dev nD) (fo : outM.view.ty.Contents (Elt F)) {A B : FVec F S512x512 .f32} (hA : A = tileAt m c 7 0) (hB : B = tileAt m c 7 1)
    {p0 p1 p2 p3 p4 p5 p6 : FVec F S512x1024 .f32}
    (h0 : p0 = got m c 0) (h1 : p1 = got m c 1) (h2 : p2 = got m c 2) (h3 : p3 = got m c 3) (h4 : p4 = got m c 4) (h5 : p5 = got m c 5) (h6 : p6 = got m c 6) :
    outM.view.read (Elt F) (outM.view.writes (Elt F) fo [pieceR c 6 p6, pieceR c 5 p5, pieceR c 4 p4, pieceR c 3 p3, pieceR c 2 p2, pieceR c 1 p1, pieceR c 0 p0, pieceB c B, pieceA c A]) = outAt m c := by
  subst h0 h1 h2 h3 h4 h5 h6
  exact out_value m c fo (got m c) (fun _ => rfl) hA hB

end Cert.Fused

end
-- ==== Proof.Body.lean ====
/-
  The kernel's body, run once at any device `c`: what a device holds when its body starts (`kPre`), what it holds when
  the body is done (`kPost`), and the run between the two (`body_run`), step by step over the lemmas of Steps.lean.
-/
module

public import proofs.«01_k».proof.Proof.Steps
public import proofs.«01_k».proof.Proof.Values

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Option Unit) (Elt F) ℕ UU ℕ

variable (m : (ℓ : Loc nD τ sig) → Buf (Elt F) ℓ) (K : Dev nD × Kx → ℕ)

/-! ## The printed device numbers -/

theorem dev1_up (d : Dev nD) : (⟨k0_dev1 d, k0_dev1_lt d⟩ : Dev nD) = up d 0 := by revert d; decide +kernel
theorem dev2_up (d : Dev nD) : (⟨k0_dev2 d, k0_dev2_lt d⟩ : Dev nD) = up d 1 := by revert d; decide +kernel
theorem dev3_up (d : Dev nD) : (⟨k0_dev3 d, k0_dev3_lt d⟩ : Dev nD) = up d 2 := by revert d; decide +kernel
theorem dev4_up (d : Dev nD) : (⟨k0_dev4 d, k0_dev4_lt d⟩ : Dev nD) = up d 3 := by revert d; decide +kernel
theorem dev5_up (d : Dev nD) : (⟨k0_dev5 d, k0_dev5_lt d⟩ : Dev nD) = up d 4 := by revert d; decide +kernel
theorem dev6_up (d : Dev nD) : (⟨k0_dev6 d, k0_dev6_lt d⟩ : Dev nD) = up d 5 := by revert d; decide +kernel
theorem dev7_up (d : Dev nD) : (⟨k0_dev7 d, k0_dev7_lt d⟩ : Dev nD) = up d 6 := by revert d; decide +kernel
theorem dev8_up (d : Dev nD) : (⟨k0_dev8 d, k0_dev8_lt d⟩ : Dev nD) = up d 0 := by revert d; decide +kernel
theorem dev9_up (d : Dev nD) : (⟨k0_dev9 d, k0_dev9_lt d⟩ : Dev nD) = up d 1 := by revert d; decide +kernel
theorem dev10_up (d : Dev nD) : (⟨k0_dev10 d, k0_dev10_lt d⟩ : Dev nD) = up d 2 := by revert d; decide +kernel
theorem dev11_up (d : Dev nD) : (⟨k0_dev11 d, k0_dev11_lt d⟩ : Dev nD) = up d 3 := by revert d; decide +kernel
theorem dev12_up (d : Dev nD) : (⟨k0_dev12 d, k0_dev12_lt d⟩ : Dev nD) = up d 4 := by revert d; decide +kernel
theorem dev13_up (d : Dev nD) : (⟨k0_dev13 d, k0_dev13_lt d⟩ : Dev nD) = up d 5 := by revert d; decide +kernel
theorem dev14_up (d : Dev nD) : (⟨k0_dev14 d, k0_dev14_lt d⟩ : Dev nD) = up d 6 := by revert d; decide +kernel

/-- The body on the buffers that the launch hands it. -/
def kbody : Prog (TpuEff nD τ sig (Elt F) Λ₀ .tc) PUnit :=
  cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6

omit [FloatOps F] in
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Half `b` of the landing buffer of the weights, held. -/
def wPts (c : Dev nD) (b : Fin 2) (f : Buf (Elt F) ((slotW b).view.loc (c : Thread nD τ))) : sProp 𝕄 :=
  (slotW b).view.loc (c : Thread nD τ) ↦[(slotW b).view.set]{fullShare} f

/-- The semaphores of the weight copies. -/
theorem wsem_inb (b : Fin 2) : ∀ a, (![b.val] : Fin 1 → Nat) a + S1.size a ≤ S2.size a := by revert b; decide
abbrev wdmaS (b : Fin 2) : DmaSem sig := ((cc0_scratch4.slice (Rect.unit (s := S2) ![b.val] S1.size (wsem_inb b))).squeeze S_ squeezes_S1_S_).sem

/-- The whole buffers the body works in: the rows, the two scales, the weights, the narrowed weights. -/
abbrev xM : Memref sig .tc .vmem S512x4096 .f32 := Memref.whole cc0_stg0_0
abbrev sxM : Memref sig .tc .smem S1 .f32 := Memref.whole cc0_stg1_0
abbrev swM : Memref sig .tc .smem S1 .f32 := Memref.whole cc0_stg2_0
abbrev wM : Memref sig .tc .hbm S4096x8192 .f32 := Memref.whole main_arg1
abbrev w8M : Memref sig .tc .vmem S2x4096x512 .fp8e5m2 := Memref.whole cc0_scratch1

/-- The tokens, positions and credits device `c` starts from. -/
def ghost (c : Dev nD) : sProp 𝕄 :=
  iprop((bigSep Finset.univ fun i : Fin 7 => dutyTok EX (barCell (up c i)) 0 i)
    ∗ (bigSep Finset.univ fun i : Fin 7 => iprop(dutyTok EX (sendCell c i) 0 0 ∗ dutyTok EX (recvCell (up c i) i) 0 0))
    ∗ atPos EX (barCell c) 0 ∅ 0 ∗ (bigSep Finset.univ fun i : Fin 7 => atPos EX (sendCell c i) 0 ∅ 0)
    ∗ (bigSep Finset.univ fun i : Fin 7 => atPos EX (recvCell c i) 0 ∅ 0)
    ∗ cred (tallyAt (barCell c) (some ()) 7) ∗ (bigSep Finset.univ fun i : Fin 7 => cred (tallyAt (recvCell c i) (some ()) N)))

/-- What device `c` holds besides when its body starts: the slots it receives in and sends from, the landing buffer, its copies' counters, its
    staged rows and scales, the weights at two half shares, the narrowed weights and the result at whatever they hold. -/
def bufs (c : Dev nD) (fo : Buf (Elt F) (outM.view.loc (c : Thread nD τ))) : sProp 𝕄 :=
  iprop((∃ f, wPts c 0 f) ∗ (∃ f, wPts c 1 f)
    ∗ semVal ((c : Thread nD τ), .dma (wdmaS 0)) 0 ∗ semVal ((c : Thread nD τ), .dma (wdmaS 1)) 0
    ∗ (xM.view.loc (c : Thread nD τ) ↦{fullShare} xAt m c)
    ∗ (sxM.view.loc (c : Thread nD τ) ↦{fullShare} sxAt m c)
    ∗ (swM.view.loc (c : Thread nD τ) ↦{fullShare} swAt m c)
    ∗ (wM.view.loc (c : Thread nD τ) ↦{fullShare.left} m ((c : Thread nD τ).loc main_arg1))
    ∗ (wM.view.loc (c : Thread nD τ) ↦{fullShare.right} m ((c : Thread nD τ).loc main_arg1))
    ∗ (∃ f, w8M.view.loc (c : Thread nD τ) ↦{fullShare} f)
    ∗ (outM.view.loc (c : Thread nD τ) ↦{fullShare} fo))

/-- All it starts from. -/
def kPre (c : Dev nD) (W : Waits sig (Option Unit)) (fo : Buf (Elt F) (outM.view.loc (c : Thread nD τ))) : sProp 𝕄 :=
  iprop(records m K ∗ levAts L lv ∗ owes (c : Thread nD τ) (owe c 0 0) W ∗ ghost c
    ∗ (bigSep Finset.univ fun i : Fin 7 => iprop(∃ f, rPts c (rev i) f))
    ∗ (bigSep Finset.univ fun i : Fin 7 => iprop(∃ f, sPts c i f))
    ∗ bufs m c fo)

/-- All it ends with. -/
def kPost (c : Dev nD) : sProp 𝕄 :=
  iprop((∃ W', owes (c : Thread nD τ) 0 W') ∗ (bigSep Finset.univ fun k : Kx => semVal (kcell (c, k)) 0)
    ∗ (bigSep Finset.univ fun i : Fin 7 => iprop(∃ f, rPts c i f))
    ∗ (bigSep Finset.univ fun i : Fin 7 => iprop(∃ f, sPts c i f))
    ∗ bufs m c (outAt m c))

set_option maxHeartbeats 1000000 in
set_option maxRecDepth 65536 in
/-- The body, run once at any device `c`. -/
theorem body_run (c : Dev nD) (Q : PUnit → sProp 𝕄) (W : Waits sig (Option Unit)) (fo : Buf (Elt F) (outM.view.loc (c : Thread nD τ))) :
    iprop(kPre m K c W fo ∗ (kPost m c -∗ Q ⟨⟩)) ⊢ wp frame (wpE (defs₀ (F := F)) 𝒱₀ c none) Set.univ (kbody (F := F)) Q := by
  unfold kPre bufs
  unfold kbody ghost
  repeat rw [fin7]
  iintro ⟨⟨#HR, #Hlev, HO, ⟨⟨Hb0, Hb1, Hb2, Hb3, Hb4, Hb5, Hb6⟩, ⟨⟨Ht0, Hu0⟩, ⟨Ht1, Hu1⟩, ⟨Ht2, Hu2⟩, ⟨Ht3, Hu3⟩, ⟨Ht4, Hu4⟩, ⟨Ht5, Hu5⟩, ⟨Ht6, Hu6⟩⟩, HatB, ⟨HaS0, HaS1, HaS2, HaS3, HaS4, HaS5, HaS6⟩, ⟨HaV0, HaV1, HaV2, HaV3, HaV4, HaV5, HaV6⟩, HcB, ⟨HcV0, HcV1, HcV2, HcV3, HcV4, HcV5, HcV6⟩⟩,
    ⟨Hr0, Hr1, Hr2, Hr3, Hr4, Hr5, Hr6⟩, ⟨⟨%s0, Hs0⟩, ⟨%s1, Hs1⟩, ⟨%s2, Hs2⟩, ⟨%s3, Hs3⟩, ⟨%s4, Hs4⟩, ⟨%s5, Hs5⟩, ⟨%s6, Hs6⟩⟩,
    ⟨%fw0, Hw0⟩, ⟨%fw1, Hw1⟩, Hq0, Hq1, Hx, Hsx, Hsw, HwL, HwR, ⟨%f8, Hw8⟩, Ho⟩, Hk⟩
  unfold wPts sPts
  rw [cc0_body_eq_skeleton]; unfold cc0_body_skel
  sl_exec
  iapply (signal_step m K c 0 _ (dev1_up c) 0 0 1) $$ HR HO Hb0 Hr0; iintro HO; sl_exec
  iapply (signal_step m K c 1 _ (dev2_up c) 0 1 2) $$ HR HO Hb1 Hr1; iintro HO; sl_exec
  iapply (signal_step m K c 2 _ (dev3_up c) 0 2 3) $$ HR HO Hb2 Hr2; iintro HO; sl_exec
  iapply (signal_step m K c 3 _ (dev4_up c) 0 3 4) $$ HR HO Hb3 Hr3; iintro HO; sl_exec
  iapply (signal_step m K c 4 _ (dev5_up c) 0 4 5) $$ HR HO Hb4 Hr4; iintro HO; sl_exec
  iapply (signal_step m K c 5 _ (dev6_up c) 0 5 6) $$ HR HO Hb5 Hr5; iintro HO; sl_exec
  iapply (signal_step m K c 6 _ (dev7_up c) 0 6 7) $$ HR HO Hb6 Hr6; iintro HO; sl_exec
  iapply (barrier_step m K c 0) $$ HR Hlev HcB HO HatB
  repeat rw [fin7]
  iintro ⟨⟨%W1, HO⟩, HatB, ⟨%d0, Hd0⟩, ⟨%d1, Hd1⟩, ⟨%d2, Hd2⟩, ⟨%d3, Hd3⟩, ⟨%d4, Hd4⟩, ⟨%d5, Hd5⟩, ⟨%d6, Hd6⟩⟩
  ihave #Hmw := (Transfers.MayWaits.intro fun sm => mayWait_low c sm 0 7) $$ Hlev

  sl_exec
  have h0 : (slotS 0).view.read (Elt F) (body_run.sl.Hs0_w2 m c s0) = sent m c 0 :=
    stored_block m c 0 s0 (step_pack m c 0 0 (scale_read m c) _ _ _) (step_pack m c 0 1 (scale_read m c) _ _ _)
  iapply (send_step m K c 0 _ (dev8_up c) 0 1 7 h0) $$ HR HO Ht0 Hu0 Hs0 Hd0; iintro ⟨HcS0, HO⟩
  ihave #Hmw1 := (Transfers.MayWaits.intro fun sm => mayWait_low c sm 1 7) $$ Hlev
  sl_exec
  have h1 : (slotS 1).view.read (Elt F) (body_run.sl.Hs1_w2 m c s1) = sent m c 1 :=
    stored_block m c 1 s1 (step_pack m c 1 0 (scale_read m c) _ _ _) (step_pack m c 1 1 (scale_read m c) _ _ _)
  iapply (send_step m K c 1 _ (dev9_up c) 1 2 7 h1) $$ HR HO Ht1 Hu1 Hs1 Hd1; iintro ⟨HcS1, HO⟩
  ihave #Hmw2 := (Transfers.MayWaits.intro fun sm => mayWait_low c sm 2 7) $$ Hlev
  sl_exec
  have h2 : (slotS 2).view.read (Elt F) (body_run.sl.Hs2_w2 m c s2) = sent m c 2 :=
    stored_block m c 2 s2 (step_pack m c 2 0 (scale_read m c) _ _ _) (step_pack m c 2 1 (scale_read m c) _ _ _)
  iapply (send_step m K c 2 _ (dev10_up c) 2 3 7 h2) $$ HR HO Ht2 Hu2 Hs2 Hd2; iintro ⟨HcS2, HO⟩
  ihave #Hmw3 := (Transfers.MayWaits.intro fun sm => mayWait_low c sm 3 7) $$ Hlev
  sl_exec
  have h3 : (slotS 3).view.read (Elt F) (body_run.sl.Hs3_w2 m c s3) = sent m c 3 :=
    stored_block m c 3 s3 (step_pack m c 3 0 (scale_read m c) _ _ _) (step_pack m c 3 1 (scale_read m c) _ _ _)
  iapply (send_step m K c 3 _ (dev11_up c) 3 4 7 h3) $$ HR HO Ht3 Hu3 Hs3 Hd3; iintro ⟨HcS3, HO⟩
  ihave #Hmw4 := (Transfers.MayWaits.intro fun sm => mayWait_low c sm 4 7) $$ Hlev
  sl_exec
  have h4 : (slotS 4).view.read (Elt F) (body_run.sl.Hs4_w2 m c s4) = sent m c 4 :=
    stored_block m c 4 s4 (step_pack m c 4 0 (scale_read m c) _ _ _) (step_pack m c 4 1 (scale_read m c) _ _ _)
  iapply (send_step m K c 4 _ (dev12_up c) 4 5 7 h4) $$ HR HO Ht4 Hu4 Hs4 Hd4; iintro ⟨HcS4, HO⟩
  ihave #Hmw5 := (Transfers.MayWaits.intro fun sm => mayWait_low c sm 5 7) $$ Hlev
  sl_exec
  have h5 : (slotS 5).view.read (Elt F) (body_run.sl.Hs5_w2 m c s5) = sent m c 5 :=
    stored_block m c 5 s5 (step_pack m c 5 0 (scale_read m c) _ _ _) (step_pack m c 5 1 (scale_read m c) _ _ _)
  iapply (send_step m K c 5 _ (dev13_up c) 5 6 7 h5) $$ HR HO Ht5 Hu5 Hs5 Hd5; iintro ⟨HcS5, HO⟩
  ihave #Hmw6 := (Transfers.MayWaits.intro fun sm => mayWait_low c sm 6 7) $$ Hlev
  sl_exec
  have h6 : (slotS 6).view.read (Elt F) (body_run.sl.Hs6_w2 m c s6) = sent m c 6 :=
    stored_block m c 6 s6 (step_pack m c 6 0 (scale_read m c) _ _ _) (step_pack m c 6 1 (scale_read m c) _ _ _)
  iapply (send_step m K c 6 _ (dev14_up c) 6 7 7 h6) $$ HR HO Ht6 Hu6 Hs6 Hd6; iintro ⟨HcS6, HO⟩
  rw [owe_done]
  sl_exec
  iapply (recv_step m K c 0 _ _) $$ HR HcV0 HO HaV0; iintro ⟨⟨%V0, HO⟩, HaV0, %r0, %hr0, Hr0⟩; sl_exec
  iapply (recv_step m K c 1 _ _) $$ HR HcV1 HO HaV1; iintro ⟨⟨%V1, HO⟩, HaV1, %r1, %hr1, Hr1⟩; sl_exec
  iapply (recv_step m K c 2 _ _) $$ HR HcV2 HO HaV2; iintro ⟨⟨%V2, HO⟩, HaV2, %r2, %hr2, Hr2⟩; sl_exec
  iapply (recv_step m K c 3 _ _) $$ HR HcV3 HO HaV3; iintro ⟨⟨%V3, HO⟩, HaV3, %r3, %hr3, Hr3⟩; sl_exec
  iapply (recv_step m K c 4 _ _) $$ HR HcV4 HO HaV4; iintro ⟨⟨%V4, HO⟩, HaV4, %r4, %hr4, Hr4⟩; sl_exec
  iapply (recv_step m K c 5 _ _) $$ HR HcV5 HO HaV5; iintro ⟨⟨%V5, HO⟩, HaV5, %r5, %hr5, Hr5⟩; sl_exec
  iapply (recv_step m K c 6 _ _) $$ HR HcV6 HO HaV6; iintro ⟨⟨%V6, HO⟩, HaV6, %r6, %hr6, Hr6⟩; sl_exec
  iapply (sent_step m K c 0 _ _) $$ HR HcS0 HO HaS0; iintro ⟨⟨%U0, HO⟩, HaS0, %q0, Hs0⟩; sl_exec
  iapply (sent_step m K c 1 _ _) $$ HR HcS1 HO HaS1; iintro ⟨⟨%U1, HO⟩, HaS1, %q1, Hs1⟩; sl_exec
  iapply (sent_step m K c 2 _ _) $$ HR HcS2 HO HaS2; iintro ⟨⟨%U2, HO⟩, HaS2, %q2, Hs2⟩; sl_exec
  iapply (sent_step m K c 3 _ _) $$ HR HcS3 HO HaS3; iintro ⟨⟨%U3, HO⟩, HaS3, %q3, Hs3⟩; sl_exec
  iapply (sent_step m K c 4 _ _) $$ HR HcS4 HO HaS4; iintro ⟨⟨%U4, HO⟩, HaS4, %q4, Hs4⟩; sl_exec
  iapply (sent_step m K c 5 _ _) $$ HR HcS5 HO HaS5; iintro ⟨⟨%U5, HO⟩, HaS5, %q5, Hs5⟩; sl_exec
  iapply (sent_step m K c 6 _ _) $$ HR HcS6 HO HaS6; iintro ⟨⟨%U6, HO⟩, HaS6, %q6, Hs6⟩; sl_exec
  have hA : k0_pay35 (body_run.sl.r_2 m c) (xM.view.readAt (Elt F) (Rect.unit ![0, 0] S512x4096.size inb_S512x4096_S512x4096_0_0).toLoadRect (xAt m c)) (body_run.sl.v897 m c) = tileAt m c 7 0 :=
    step_keep m c 7 0 (scale_read m c) _ _ _
  have hB : k0_pay38 (body_run.sl.r_11 m c) = tileAt m c 7 1 := step_keep m c 7 1 (scale_read m c) _ _ _
  have ho := out_done m c fo hA hB (recv_value m c 0 hr0) (recv_value m c 1 hr1) (recv_value m c 2 hr2) (recv_value m c 3 hr3) (recv_value m c 4 hr4) (recv_value m c 5 hr5) (recv_value m c 6 hr6)
  rw [wp_ret]
  imod (done_all m K c) $$ [HatB HaS0 HaS1 HaS2 HaS3 HaS4 HaS5 HaS6 HaV0 HaV1 HaV2 HaV3 HaV4 HaV5 HaV6] with Hz
  · rw [kinds, fin7, fin7]
    isplitr; · iexact HR
    isplitl [HatB]; · iexact HatB
    isplitl [HaS0 HaS1 HaS2 HaS3 HaS4 HaS5 HaS6]
    · isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      iexact HaS6
    · isplitl [HaV0]; · iexact HaV0
      isplitl [HaV1]; · iexact HaV1
      isplitl [HaV2]; · iexact HaV2
      isplitl [HaV3]; · iexact HaV3
      isplitl [HaV4]; · iexact HaV4
      isplitl [HaV5]; · iexact HaV5
      iexact HaV6
  imodintro
  iapply Hk
  unfold kPost bufs
  repeat rw [fin7]
  unfold rPts sPts wPts
  isplitl [HO]; · iexists _; iexact HO
  isplitl [Hz]; · iexact Hz
  isplitl [Hr0 Hr1 Hr2 Hr3 Hr4 Hr5 Hr6]
  · isplitl [Hr0]; · iexists _; iexact Hr0
    isplitl [Hr1]; · iexists _; iexact Hr1
    isplitl [Hr2]; · iexists _; iexact Hr2
    isplitl [Hr3]; · iexists _; iexact Hr3
    isplitl [Hr4]; · iexists _; iexact Hr4
    isplitl [Hr5]; · iexists _; iexact Hr5
    iexists _; iexact Hr6
  isplitl [Hs0 Hs1 Hs2 Hs3 Hs4 Hs5 Hs6]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6
  isplitl [Hw0]; · iexists _; iexact Hw0
  isplitl [Hw1]; · iexists _; iexact Hw1
  isplitl [Hq0]; · iexact Hq0
  isplitl [Hq1]; · iexact Hq1
  isplitl [Hx]; · iexact Hx
  isplitl [Hsx]; · iexact Hsx
  isplitl [Hsw]; · iexact Hsw
  isplitl [HwL]; · iexact HwL
  isplitl [HwR]; · iexact HwR
  isplitl [Hw8]; · iexists _; iexact Hw8
  rw [← ho]
  iexact Ho

end Cert.Fused

end
-- ==== Proof.Fund.lean ====
/-
  What the launch deals out: the cells of the exchange with their tokens and positions, minted per device and dealt
  round the ring to the device that uses them; and the credits the devices start from.
-/
module

public import proofs.«01_k».proof.Proof.Body
public import Idealize.ShloMosaic.Lib.Pipeline.Kit

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Option Unit) (Elt F) ℕ UU ℕ

variable (m : (ℓ : Loc nD τ sig) → Buf (Elt F) ℓ)

/-! ## Cells and tokens -/

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def exchCells : Finset (GSem nD τ sig) := Finset.univ.map ⟨kcell, kcell_injective⟩

/-- The duties of one device's cells: its barrier's seven, its send cells' and its receive cells' one each. -/
abbrev Tx : Type := Fin 7 ⊕ (Fin 7 ⊕ Fin 7)
abbrev tsem : Tx → SemLoc sig × Fin 7
  | .inl i => (.reg barS, i)
  | .inr (.inl i) => (.dma (sendS i), 0)
  | .inr (.inr i) => (.dma (recvS i), 0)
theorem tsem_injective : Function.Injective tsem := by decide
abbrev tokOf (cj : Dev nD × Tx) : GSem nD τ sig × ℕ × Fin 7 := (((cj.1 : Thread nD τ), (tsem cj.2).1), 0, (tsem cj.2).2)
theorem tokOf_injective : Function.Injective tokOf := by
  rintro ⟨c, j⟩ ⟨c', j'⟩ h
  have h1 : c = c' := congrArg (fun x : GSem nD τ sig × ℕ × Fin 7 => x.1.1.1) h
  have h2 : j = j' := tsem_injective (congrArg (fun x : GSem nD τ sig × ℕ × Fin 7 => (x.1.2, x.2.2)) h)
  rw [h1, h2]
def exchToks : Finset (GSem nD τ sig × ℕ × Fin 7) := Finset.univ.map ⟨tokOf, tokOf_injective⟩

def u₀ : UU := (initOf (Pipeline.cells cfgs cellOf_inj) (Pipeline.launchToks cfgs cellOf_inj), (initOf exchCells exchToks, (1 : Counters)))

/-- The tokens of device `c`'s own cells. -/
def toks (c : Dev nD) : sProp 𝕄 :=
  iprop((bigSep Finset.univ fun i : Fin 7 => dutyTok EX (barCell c) 0 i)
    ∗ (bigSep Finset.univ fun i : Fin 7 => dutyTok EX (sendCell c i) 0 0)
    ∗ (bigSep Finset.univ fun i : Fin 7 => dutyTok EX (recvCell c i) 0 0))

/-- The positions at the cells of device `c`, with the marks that their rounds have opened. -/
def places (c : Dev nD) : sProp 𝕄 :=
  iprop((bigSep Finset.univ fun k : Kx => atPos EX (kcell (c, k)) 0 ∅ 0) ∗ bigSep Finset.univ fun k : Kx => reached EX (kcell (c, k)) 0)

/-- What the launch element deals device `c`. -/
def G (c : Dev nD) : sProp 𝕄 :=
  iprop((bigSep Finset.univ fun k : Kx => roundState EX (exch m) (kcell (c, k)) 0) ∗ places c ∗ toks c)

theorem tok_kinds (Φ : Tx → sProp 𝕄) : bigSep Finset.univ Φ
    = iprop((bigSep Finset.univ fun i => Φ (.inl i)) ∗ (bigSep Finset.univ fun i => Φ (.inr (.inl i))) ∗ bigSep Finset.univ fun i => Φ (.inr (.inr i))) := by
  have h1 : bigSep Finset.univ Φ = iprop((bigSep Finset.univ fun i => Φ (.inl i)) ∗ bigSep Finset.univ fun x : Fin 7 ⊕ Fin 7 => Φ (.inr x)) := BI.bigSep_univ_sum Φ
  have h2 : (bigSep Finset.univ fun x : Fin 7 ⊕ Fin 7 => Φ (.inr x)) = iprop((bigSep Finset.univ fun i => Φ (.inr (.inl i))) ∗ bigSep Finset.univ fun i => Φ (.inr (.inr i))) :=
    BI.bigSep_univ_sum fun x : Fin 7 ⊕ Fin 7 => Φ (.inr x)
  rw [h1, h2]

theorem fund_exch : BI.own (EX (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Kx => Φ (kcell (c, k)) := by
    unfold exchCells; rw [BI.bigSep_map, bigSep_univ_prod]; rfl
  have hT : bigSep exchToks (fun x => (dutyTok EX x.1 x.2.1 x.2.2 : sProp 𝕄)) = bigSep Finset.univ fun c : Dev nD => toks c := by
    unfold exchToks; rw [BI.bigSep_map, bigSep_univ_prod]
    exact bigSep_congr fun c _ => by unfold toks; rw [tok_kinds]; rfl
  iintro HX
  imod (Rounds.fund EX (exch m) exchCells exchToks) $$ HX with ⟨Hst, Hr, Hat, Htok⟩
  imodintro
  ihave Hst' := (Entails.of_eq (hX fun g => roundState EX (exch m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-! ## Opening the cells -/

/-- The kernel's own semaphores: the two of the weight copies, the seven sends, the seven receives. -/
abbrev osem : Fin 2 ⊕ (Fin 7 ⊕ Fin 7) → SemLoc sig
  | .inl b => .dma (wdmaS b)
  | .inr (.inl i) => .dma (sendS i)
  | .inr (.inr i) => .dma (recvS i)

theorem ownSemFacts : Pipeline.OwnSemFacts cfg0.spec osem := by decide

/-- The counters of the weight copies. -/
def wSems (c : Dev nD) : sProp 𝕄 := iprop(semVal ((c : Thread nD τ), .dma (wdmaS 0)) 0 ∗ semVal ((c : Thread nD τ), .dma (wdmaS 1)) 0)

theorem ownSems0_eq (c : Dev nD) : (Pipeline.ownSems0 (Ix := Option Unit) (Name := ℕ) (U := UU) (Lvl := ℕ) (Val := Elt F) (τ := τ) osem c : sProp 𝕄)
    = iprop(wSems c ∗ (bigSep Finset.univ fun i => semVal (sendCell c i) 0) ∗ bigSep Finset.univ fun i => semVal (recvCell c i) 0) := by
  let Φ : Fin 2 ⊕ (Fin 7 ⊕ Fin 7) → sProp 𝕄 := fun k => semVal ((c : Thread nD τ), osem k) 0
  have h1 : bigSep Finset.univ Φ = iprop((bigSep Finset.univ fun b => Φ (.inl b)) ∗ bigSep Finset.univ fun x : Fin 7 ⊕ Fin 7 => Φ (.inr x)) := BI.bigSep_univ_sum Φ
  have h2 : (bigSep Finset.univ fun x : Fin 7 ⊕ Fin 7 => Φ (.inr x)) = iprop((bigSep Finset.univ fun i => Φ (.inr (.inl i))) ∗ bigSep Finset.univ fun i => Φ (.inr (.inr i))) :=
    BI.bigSep_univ_sum fun x : Fin 7 ⊕ Fin 7 => Φ (.inr x)
  have h3 : (bigSep Finset.univ fun b => Φ (.inl b)) = iprop(Φ (.inl 0) ∗ Φ (.inl 1)) := bigSep_univ_eq_bigSepL [0, 1] (by decide) (by decide) _
  show bigSep Finset.univ Φ = _
  rw [h1, h2, h3]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- What the opened cells of device `c` leave it, before the tokens are dealt. -/
def opened (c : Dev nD) : sProp 𝕄 :=
  iprop((bigSep Finset.univ fun k : Kx => iprop(∃ κ : ℕ, cellInv EX (exch m) κ (kcell (c, k)))) ∗ places c ∗ toks c ∗ wSems c)

theorem open_cells (c : Dev nD) :
    iprop(Pipeline.ownSems0 (Ix := Option Unit) (Name := ℕ) (U := UU) (Lvl := ℕ) (Val := Elt F) (τ := τ) osem c ∗ unscopedSems0 c ∗ G m c)
      ⊢ |={Set.univ}=> opened m c := by
  unfold G
  rw [ownSems0_eq, unscopedSems0_eq]
  iintro ⟨⟨Hw, Hs, Hr⟩, Hb, Hst, Hat, Htok⟩
  ihave Hv := (Entails.of_eq (kinds fun k : Kx => semVal (kcell (c, k)) 0).symm) $$ [Hs Hr Hb]
  · isplitl [Hb]; · iexact Hb
    isplitl [Hs]; · iexact Hs
    iexact Hr
  imod (show iprop((bigSep Finset.univ fun k : Kx => semVal (kcell (c, k)) 0) ∗ bigSep Finset.univ fun k : Kx => roundState EX (exch m) (kcell (c, k)) 0)
      ⊢ (|={Set.univ}=> bigSep Finset.univ fun k => iprop(∃ κ : ℕ, cellInv EX (exch m) κ (kcell (c, k))) : sProp 𝕄) from by
        rw [← bigSep_sep']
        exact (bigSep_mono fun k _ => (Rounds.body_intro EX (exch m) (kcell (c, k))).trans inv_alloc).trans (bigSep_fupd _ _)) $$ [Hv Hst] with Hinv
  · isplitl [Hv] <;> iassumption
  imodintro
  unfold opened
  isplitl [Hinv]; · iexact Hinv
  isplitl [Hat]; · iexact Hat
  isplitl [Htok]; · iexact Htok
  iexact Hw

/-! ## Dealing the tokens -/

/-- The tokens device `c` pays with. -/
def pays (c : Dev nD) : sProp 𝕄 :=
  iprop((bigSep Finset.univ fun i : Fin 7 => dutyTok EX (barCell (up c i)) 0 i)
    ∗ (bigSep Finset.univ fun i : Fin 7 => dutyTok EX (sendCell c i) 0 0)
    ∗ (bigSep Finset.univ fun i : Fin 7 => dutyTok EX (recvCell (up c i) i) 0 0))

/-- A family over devices and peer numbers, each number's members dealt up the ring. -/
theorem deal (Φ : Dev nD → Fin 7 → sProp 𝕄) :
    (bigSep Finset.univ fun c : Dev nD => bigSep Finset.univ fun i : Fin 7 => Φ c i) = bigSep Finset.univ fun c : Dev nD => bigSep Finset.univ fun i : Fin 7 => Φ (up c i) i := by
  rw [BI.bigSep_univ_comm Φ, BI.bigSep_univ_comm fun (c : Dev nD) (i : Fin 7) => Φ (up c i) i]
  exact bigSep_congr fun i _ => bigSep_univ_equiv (around i) fun c => Φ c i

theorem toks_dealt : (bigSep Finset.univ fun c : Dev nD => (toks c : sProp 𝕄)) = bigSep Finset.univ fun c : Dev nD => pays c := by
  unfold toks pays
  rw [bigSep_sep', bigSep_sep', bigSep_sep', bigSep_sep', deal fun c i => dutyTok EX (barCell c) 0 i, deal fun c i => dutyTok EX (recvCell c i) 0 0]

/-- Every device's share after the cells are open: what all know, its positions, its tokens, its copies' counters. -/
def share (c : Dev nD) : sProp 𝕄 := iprop((bigSep Finset.univ fun k : Kx => atPos EX (kcell (c, k)) 0 ∅ 0) ∗ pays c ∗ wSems c)
def G' (c : Dev nD) : sProp 𝕄 := iprop(∃ K, records m K ∗ share c)

theorem regroup : (bigSep Finset.univ fun c : Dev nD => (opened m c : sProp 𝕄)) ⊢ bigSep Finset.univ (G' m) := by
  unfold opened places
  rw [bigSep_sep', bigSep_sep', bigSep_sep', bigSep_sep', ← bigSep_univ_prod (fun ck : Dev nD × Kx => iprop(∃ κ : ℕ, cellInv EX (exch m) κ (kcell ck))),
    ← bigSep_univ_prod (fun ck : Dev nD × Kx => (reached EX (kcell ck) 0 : sProp 𝕄)), toks_dealt]
  iintro ⟨HI, ⟨Hat, #HR⟩, Htok, Hw⟩
  ihave HK := (BI.bigSep_exists_pi Finset.univ (fun (ck : Dev nD × Kx) (κ : ℕ) => (cellInv EX (exch m) κ (kcell ck) : sProp 𝕄))) $$ HI
  icases HK with ⟨%K, #HI⟩
  iapply (beside_all (R := records m K) (Φ := share) (Ψ := G' m) fun c _ => show iprop(records m K ∗ share c) ⊢ G' m c from by
    unfold G'; iintro ⟨H1, H2⟩; iexists K; isplitl [H1] <;> iassumption)
  isplitr
  · unfold records; isplitl; · iexact HI
    iexact HR
  · unfold share; rw [bigSep_sep', bigSep_sep']
    isplitl [Hat]; · iexact Hat
    isplitl [Htok] <;> iassumption

theorem glob : (bigSep Finset.univ fun c => iprop(Pipeline.ownSems0 (Ix := Option Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The credits of the launch -/

theorem owe_bar (d c : Dev nD) (u : Option Unit) : O₀ d (barCell c) u = ∑ i : Fin 7, if c = up d i ∧ u = some () then 1 else 0 := by
  have h0 : (Finset.univ.filter fun i : Fin 7 => 0 ≤ i.val) = Finset.univ := by decide
  unfold O₀ owe oweR oweB
  rw [h0, Pi.add_apply, Finsupp.add_apply, Finset.sum_apply, Finsupp.finset_sum_apply, Finset.sum_apply, Finsupp.finset_sum_apply,
    Finset.sum_eq_zero (f := fun i : Fin 7 => (tallyAt (recvCell (up d i) i) (some ()) N : CellTallies nD τ sig (Option Unit)) (barCell c) u)
      (fun i _ => by rw [tallyAt_apply, if_neg fun h => by have := congrArg Prod.snd h.1; cases this]), Nat.zero_add]
  refine Finset.sum_congr rfl fun i _ => ?_
  rw [tallyAt_apply]
  refine if_congr (and_congr_left' ⟨fun h => congrArg (fun g : GSem nD τ sig => g.1.1) h, fun h => by rw [h]⟩) rfl rfl

theorem recv_inj {a b : Dev nD} {i j : Fin 7} (h : recvCell a i = recvCell b j) : a = b ∧ i = j :=
  have e : (a, (.inr (.inr i) : Kx)) = (b, .inr (.inr j)) := kcell_injective h
  ⟨congrArg Prod.fst e, by have := congrArg Prod.snd e; simpa using this⟩

theorem owe_recv (d c : Dev nD) (i : Fin 7) (u : Option Unit) : O₀ d (recvCell c i) u = if d = dn c i ∧ u = some () then N else 0 := by
  have h0 : (Finset.univ.filter fun i : Fin 7 => 0 ≤ i.val) = Finset.univ := by decide
  unfold O₀ owe oweR oweB
  rw [h0, Pi.add_apply, Finsupp.add_apply, Finset.sum_apply, Finsupp.finset_sum_apply, Finset.sum_apply, Finsupp.finset_sum_apply,
    Finset.sum_eq_zero (f := fun j : Fin 7 => (tallyAt (barCell (up d j)) (some ()) 1 : CellTallies nD τ sig (Option Unit)) (recvCell c i) u)
      (fun j _ => by rw [tallyAt_apply, if_neg fun h => by have := congrArg Prod.snd h.1; cases this]), Nat.add_zero,
    Finset.sum_eq_single i (fun j _ hj => by rw [tallyAt_apply, if_neg fun h => hj (recv_inj h.1).2.symm]) (fun h => absurd (Finset.mem_univ i) h)]
  rw [tallyAt_apply]
  refine if_congr (and_congr_left' ⟨fun h => ?_, fun h => ?_⟩) rfl rfl
  · rw [(recv_inj h).1, dn_up]
  · rw [h, up_dn]

theorem credit_bar (c : Dev nD) : tallyOn (barCell c) (launchCredit (Pipeline.owing O₀) 0 (barCell c)) = (tallyAt (barCell c) (some ()) 7 : CellTallies nD τ sig (Option Unit)) := by
  unfold tallyAt; refine congrArg _ (Finsupp.ext fun u => ?_)
  rw [Pipeline.launchCredit_owing, Finset.sum_congr rfl fun d _ => owe_bar d c u]
  cases u with
  | none => rw [Finsupp.single_eq_of_ne (by decide)]; exact Finset.sum_eq_zero fun d _ => Finset.sum_eq_zero fun i _ => if_neg fun h => by cases h.2
  | some x =>
    cases x
    rw [Finsupp.single_eq_same]
    revert c; decide

theorem credit_recv (c : Dev nD) (i : Fin 7) : tallyOn (recvCell c i) (launchCredit (Pipeline.owing O₀) 0 (recvCell c i)) = (tallyAt (recvCell c i) (some ()) N : CellTallies nD τ sig (Option Unit)) := by
  unfold tallyAt; refine congrArg _ (Finsupp.ext fun u => ?_)
  rw [Pipeline.launchCredit_owing, Finset.sum_congr rfl fun d _ => owe_recv d c i u]
  cases u with
  | none => rw [Finsupp.single_eq_of_ne (by decide)]; exact Finset.sum_eq_zero fun d _ => if_neg fun h => by cases h.2
  | some x =>
    cases x
    rw [Finsupp.single_eq_same, Finset.sum_eq_single (dn c i) (fun d _ hd => if_neg fun h => hd h.1) (fun h => absurd (Finset.mem_univ _) h), if_pos ⟨rfl, rfl⟩]

theorem creds (c : Dev nD) : (Pipeline.launchCred O₀ c : sProp 𝕄)
    ⊢ iprop(cred (tallyAt (barCell c) (some ()) 7) ∗ bigSep Finset.univ fun i : Fin 7 => cred (tallyAt (recvCell c i) (some ()) N)) := by
  unfold Pipeline.launchCred
  rw [bigSep_univ_at _ (SemLoc.reg barS), credit_bar]
  refine sep_mono_right ?_
  have hr : Function.Injective fun i : Fin 7 => (SemLoc.dma (recvS i) : SemLoc sig) := by decide
  have hs : Finset.univ.map ⟨fun i : Fin 7 => (SemLoc.dma (recvS i) : SemLoc sig), hr⟩ ⊆ Finset.univ.erase (SemLoc.reg barS) := by
    intro s hs
    obtain ⟨i, -, rfl⟩ := Finset.mem_map.mp hs
    exact Finset.mem_erase.mpr ⟨(fun h => by cases h), Finset.mem_univ _⟩
  refine (bigSep_subset hs).trans ?_
  rw [BI.bigSep_map]
  exact Entails.of_eq (bigSep_congr fun i _ => by rw [← credit_recv]; rfl)

end Cert.Fused

end
-- ==== Proof.Run.lean ====
/-
  The launch: the body's run put between what a device holds when its kernel starts and what it holds when the kernel
  ends, and the run of the whole program on eight devices.
-/
module

public import proofs.«01_k».proof.Proof.Fund
public import Idealize.ShloMosaic.Lib.Quiescent
public import Idealize.ShloMosaic.Lib.ViewIndex
public import Idealize.ShloMosaic.Lib.Pipeline.CollectiveSegs

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (Option Unit) (Elt F) ℕ UU ℕ

variable (m : (ℓ : Loc nD τ sig) → Buf (Elt F) ℓ) (ρ : Dev nD → PrngReg)

/-! ## Buffers cut into slots -/

theorem box_apart {i j : ℕ} {inb inb'} (h : i ≠ j) : Disjoint (Rect.unit (s := S7x512x1024) ![i, 0, 0] S1x512x1024.size inb).set (Rect.unit (s := S7x512x1024) ![j, 0, 0] S1x512x1024.size inb').set :=
  Rect.unit_disjoint 0 (by show i + 1 ≤ j ∨ j + 1 ≤ i; omega)
theorem boxW_apart {i j : Fin 2} (h : i ≠ j) : Disjoint (boxW i).set (boxW j).set :=
  Rect.unit_disjoint 0 (by have : i.val ≠ j.val := fun e => h (Fin.ext e); show i.val + 1 ≤ j.val ∨ j.val + 1 ≤ i.val; omega)

theorem apartR (i j : Fin 7) (h : i ≠ j) : Disjoint (slotR i).view.set (slotR j).view.set := by
  have D := View.disjoint_slice (v := (Memref.whole cc0_scratch3).view) (box_apart (inb := slot_inb i) (inb' := slot_inb j) fun e => h (Fin.ext e))
  refine Finset.disjoint_left.mpr fun y h1 h2 => Finset.disjoint_left.mp D (?_ : y ∈ ((Memref.whole cc0_scratch3).view.slice (Rect.unit (s := S7x512x1024) ![i.val, 0, 0] S1x512x1024.size (slot_inb i))).set) (?_ : y ∈ ((Memref.whole cc0_scratch3).view.slice (Rect.unit (s := S7x512x1024) ![j.val, 0, 0] S1x512x1024.size (slot_inb j))).set)
  · exact (Finset.ext_iff.mp (View.set_reshape _ _) y).mp h1
  · exact (Finset.ext_iff.mp (View.set_reshape _ _) y).mp h2
theorem apartS (i j : Fin 7) (h : i ≠ j) : Disjoint (slotS i).view.set (slotS j).view.set := by
  have D := View.disjoint_slice (v := (Memref.whole cc0_scratch2).view) (box_apart (inb := slot_inb i) (inb' := slot_inb j) fun e => h (Fin.ext e))
  refine Finset.disjoint_left.mpr fun y h1 h2 => Finset.disjoint_left.mp D (?_ : y ∈ ((Memref.whole cc0_scratch2).view.slice (Rect.unit (s := S7x512x1024) ![i.val, 0, 0] S1x512x1024.size (slot_inb i))).set) (?_ : y ∈ ((Memref.whole cc0_scratch2).view.slice (Rect.unit (s := S7x512x1024) ![j.val, 0, 0] S1x512x1024.size (slot_inb j))).set)
  · exact (Finset.ext_iff.mp (View.set_reshape _ _) y).mp h1
  · exact (Finset.ext_iff.mp (View.set_reshape _ _) y).mp h2
theorem apartW (i j : Fin 2) (h : i ≠ j) : Disjoint (slotW i).view.set (slotW j).view.set := by
  have D := View.disjoint_slice (v := (Memref.whole cc0_scratch0).view) (boxW_apart h)
  refine Finset.disjoint_left.mpr fun y h1 h2 => Finset.disjoint_left.mp D (?_ : y ∈ ((Memref.whole cc0_scratch0).view.slice (boxW i)).set) (?_ : y ∈ ((Memref.whole cc0_scratch0).view.slice (boxW j)).set)
  · exact (Finset.ext_iff.mp (View.set_reshape _ _) y).mp h1
  · exact (Finset.ext_iff.mp (View.set_reshape _ _) y).mp h2

/-- A whole buffer at some contents. -/
abbrev anyB (c : Dev nD) (b : Ref sig .tc) : sProp 𝕄 := iprop(∃ f : Buf (Elt F) ((c : Thread nD τ).loc b), ((c : Thread nD τ).loc b) ↦{fullShare} f)

/-- What is left of the three cut buffers beside their slots. -/
def restR (c : Dev nD) : sProp 𝕄 := iprop(∃ f, ((c : Thread nD τ).loc cc0_scratch3) ↦[Ring.restOf fun i : Fin 7 => (slotR i).view.set]{fullShare} f)
def restS (c : Dev nD) : sProp 𝕄 := iprop(∃ f, ((c : Thread nD τ).loc cc0_scratch2) ↦[Ring.restOf fun i : Fin 7 => (slotS i).view.set]{fullShare} f)
def restW (c : Dev nD) : sProp 𝕄 := iprop(∃ f, ((c : Thread nD τ).loc cc0_scratch0) ↦[Ring.restOf fun b : Fin 2 => (slotW b).view.set]{fullShare} f)

theorem cutR (c : Dev nD) : (anyB (F := F) c cc0_scratch3) ⊢ iprop((bigSep Finset.univ fun i : Fin 7 => iprop(∃ f, rPts c i f)) ∗ restR c) :=
  Ring.fam_split_ex (ℓ := (c : Thread nD τ).loc cc0_scratch3) (fun i : Fin 7 => (slotR i).view.set) apartR
theorem cutS (c : Dev nD) : (anyB (F := F) c cc0_scratch2) ⊢ iprop((bigSep Finset.univ fun i : Fin 7 => iprop(∃ f, sPts c i f)) ∗ restS c) :=
  Ring.fam_split_ex (ℓ := (c : Thread nD τ).loc cc0_scratch2) (fun i : Fin 7 => (slotS i).view.set) apartS
theorem cutW (c : Dev nD) : (anyB (F := F) c cc0_scratch0) ⊢ iprop((bigSep Finset.univ fun b : Fin 2 => iprop(∃ f, wPts c b f)) ∗ restW c) :=
  Ring.fam_split_ex (ℓ := (c : Thread nD τ).loc cc0_scratch0) (fun i : Fin 2 => (slotW i).view.set) apartW

theorem joinR (c : Dev nD) (f₀ : Buf (Elt F) ((c : Thread nD τ).loc cc0_scratch3)) : iprop((bigSep Finset.univ fun i : Fin 7 => iprop(∃ f, rPts c i f)) ∗ restR c) ⊢ anyB (F := F) c cc0_scratch3 :=
  Ring.fam_join (ℓ := (c : Thread nD τ).loc cc0_scratch3) (fun i : Fin 7 => (slotR i).view.set) apartR f₀
theorem joinS (c : Dev nD) (f₀ : Buf (Elt F) ((c : Thread nD τ).loc cc0_scratch2)) : iprop((bigSep Finset.univ fun i : Fin 7 => iprop(∃ f, sPts c i f)) ∗ restS c) ⊢ anyB (F := F) c cc0_scratch2 :=
  Ring.fam_join (ℓ := (c : Thread nD τ).loc cc0_scratch2) (fun i : Fin 7 => (slotS i).view.set) apartS f₀
theorem joinW (c : Dev nD) (f₀ : Buf (Elt F) ((c : Thread nD τ).loc cc0_scratch0)) : iprop((bigSep Finset.univ fun b : Fin 2 => iprop(∃ f, wPts c b f)) ∗ restW c) ⊢ anyB (F := F) c cc0_scratch0 :=
  Ring.fam_join (ℓ := (c : Thread nD τ).loc cc0_scratch0) (fun i : Fin 2 => (slotW i).view.set) apartW f₀

theorem two (Φ : Fin 2 → sProp 𝕄) : bigSep Finset.univ Φ = iprop(Φ 0 ∗ Φ 1) := bigSep_univ_eq_bigSepL [0, 1] (by decide) (by decide) Φ

/-- The receive slots, in the order in which the device hands them over. -/
theorem slots_turned (c : Dev nD) : (bigSep Finset.univ fun i : Fin 7 => (iprop(∃ f, rPts c i f) : sProp 𝕄)) = bigSep Finset.univ fun i : Fin 7 => iprop(∃ f, rPts c (rev i) f) :=
  bigSep_univ_equiv turn fun i : Fin 7 => (iprop(∃ f, rPts c i f) : sProp 𝕄)

/-! ## What a device holds before and after -/

/-- The weights of device `c`, whole and as launched. -/
abbrev wHeld (c : Dev nD) : sProp 𝕄 := ((c : Thread nD τ).loc main_arg1) ↦{fullShare} m ((c : Thread nD τ).loc main_arg1)

def start (c : Dev nD) : sProp 𝕄 :=
  iprop(G' m c ∗ (cred (tallyAt (barCell c) (some ()) 7) ∗ bigSep Finset.univ fun i : Fin 7 => cred (tallyAt (recvCell c i) (some ()) N)) ∗ levAts L lv ∗ wHeld m c)

abbrev scratch (c : Dev nD) : sProp 𝕄 := iprop(anyB c cc0_scratch0 ∗ anyB c cc0_scratch1 ∗ anyB c cc0_scratch2 ∗ anyB c cc0_scratch3)

def Φ₀ (c : Dev nD) : sProp 𝕄 := iprop(start m c ∗ scratch c)
def Φ₁ (c : Dev nD) : sProp 𝕄 := iprop((bigSep Finset.univ fun k : Kx => semVal (kcell (c, k)) 0) ∗ wSems c ∗ wHeld m c ∗ scratch c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) (Option Unit) ℕ UU ℕ cfg0 c where
  A w := (s₀ m ρ).mem ((cfg0.win w).arr.view.loc (c : Thread nD τ))
  after w _ := match w with
    | ⟨0, _⟩ => xAt m c
    | ⟨1, _⟩ => sxAt m c
    | ⟨2, _⟩ => swAt m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Option Unit) (Name := ℕ) (U := UU) (Lvl := ℕ) (c : Thread nD τ) (Memref.whole b) fullShare X : sProp 𝕄) = stg c b X := by
  unfold owns; simp only [Memref.view_whole, View.read_whole, View.set_whole]

theorem fetched0 (t : Fin cfg0.N) : (cfg0.win (0 : Fin 4)).fetch t = true := by rw [fin_N t]; rfl
theorem fetched1 (t : Fin cfg0.N) : (cfg0.win (1 : Fin 4)).fetch t = true := by rw [fin_N t]; rfl
theorem fetched2 (t : Fin cfg0.N) : (cfg0.win (2 : Fin 4)).fetch t = true := by rw [fin_N t]; rfl

def bodyPre (c : Dev nD) : sProp 𝕄 :=
  iprop(Φ₀ m c ∗ (dats m ρ 0 c).owesAt none t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt none t₀.succ ∗ stg c cc0_stg0_0 (xAt m c) ∗ stg c cc0_stg1_0 (sxAt m c) ∗ stg c cc0_stg2_0 (swAt m c) ∗ stg c cc0_stg3_0 (outAt m c))

/-- The body between the two. -/
theorem body_between (c : Dev nD) : bodyPre m ρ c ⊢ wp frame (wpE (defs₀ (F := F)) 𝒱₀ (c : Thread nD τ) none) Set.univ (kbody (F := F)) (fun _ => bodyPost m ρ c) := by
  unfold bodyPre Φ₀ start G' share pays wSems
  iintro ⟨⟨⟨⟨%K, #HR, Hat, ⟨Ht1, Ht2, Ht3⟩, Hw0, Hw1⟩, ⟨Hc1, Hc2⟩, #Hlev, Hwt⟩, ⟨%f0, H0⟩, H1, ⟨%f2, H2⟩, ⟨%f3, H3⟩⟩, Ho, ⟨%d0, %g0, %hg0, Hx⟩, ⟨%d1, %g1, %hg1, Hsx⟩, ⟨%d2, %g2, %hg2, Hsw⟩, ⟨%d3, %g3, %hg3, Hout⟩⟩
  have hx : g0 = xAt m c := by rw [hg0]; unfold Dat.before; rw [if_pos (fetched0 t₀)]; rfl
  have hsx : g1 = sxAt m c := by rw [hg1]; unfold Dat.before; rw [if_pos (fetched1 t₀)]; rfl
  have hsw : g2 = swAt m c := by rw [hg2]; unfold Dat.before; rw [if_pos (fetched2 t₀)]; rfl
  subst hx hsx hsw
  unfold Dat.owesAt Pipeline.owesWithin
  icases Ho with ⟨%W, %hW, HO⟩
  rw [show (dats m ρ 0 c).owed t₀.castSucc = O₀ c from rfl]
  ihave H0 := (cutW c) $$ [H0]
  · iexists f0; iexact H0
  icases H0 with ⟨HW, HrW⟩
  ihave HW := (Entails.of_eq (two fun b : Fin 2 => (iprop(∃ f, wPts c b f) : sProp 𝕄))) $$ HW
  icases HW with ⟨HWa, HWb⟩
  ihave H2 := (cutS c) $$ [H2]
  · iexists f2; iexact H2
  icases H2 with ⟨HS, HrS⟩
  ihave H3 := (cutR c) $$ [H3]
  · iexists f3; iexact H3
  icases H3 with ⟨HV, HrV⟩
  ihave HV := (Entails.of_eq (slots_turned c)) $$ HV
  ihave Hat := (Entails.of_eq (kinds fun k : Kx => (atPos EX (kcell (c, k)) 0 ∅ 0 : sProp 𝕄))) $$ Hat
  icases Hat with ⟨HaB, HaS, HaV⟩
  ihave Hwt := (pointsTo_share (PosShare.mem_left_op_right fullShare)).1 $$ Hwt
  icases Hwt with ⟨HwL, HwR⟩
  iapply (body_run m K c (fun _ => bodyPost m ρ c) W g3)
  isplitr [HrW HrS HrV]
  · unfold kPre ghost bufs
    isplitr; · iexact HR
    isplitr; · iexact Hlev
    isplitl [HO]; · iexact HO
    isplitl [Ht1 Ht2 Ht3 HaB HaS HaV Hc1 Hc2]
    · isplitl [Ht1]; · iexact Ht1
      isplitl [Ht2 Ht3]
      · rw [bigSep_sep']; isplitl [Ht2] <;> iassumption
      isplitl [HaB]; · iexact HaB
      isplitl [HaS]; · iexact HaS
      isplitl [HaV]; · iexact HaV
      isplitl [Hc1] <;> iassumption
    isplitl [HV]; · iexact HV
    isplitl [HS]; · iexact HS
    isplitl [HWa]; · iexact HWa
    isplitl [HWb]; · iexact HWb
    isplitl [Hw0]; · iexact Hw0
    isplitl [Hw1]; · iexact Hw1
    isplitl [Hx]; · iexact Hx
    isplitl [Hsx]; · iexact Hsx
    isplitl [Hsw]; · iexact Hsw
    isplitl [HwL]; · iexact HwL
    isplitl [HwR]; · iexact HwR
    isplitl [H1]; · iexact H1
    iexact Hout
  unfold kPost bufs
  iintro ⟨⟨%W', HO⟩, Hsem, HV, HS, HWa, HWb, Hw0, Hw1, Hx, Hsx, Hsw, HwL, HwR, H1, Hout⟩
  unfold bodyPost Φ₁ wSems Dat.owesAt Pipeline.owesWithin
  rw [show (dats m ρ 0 c).owed t₀.succ = 0 from rfl]
  isplitr [HO Hx Hsx Hsw Hout]
  · isplitl [Hsem]; · iexact Hsem
    isplitl [Hw0 Hw1]
    · isplitl [Hw0] <;> iassumption
    isplitl [HwL HwR]
    · iapply (pointsTo_share (PosShare.mem_left_op_right fullShare)).2
      isplitl [HwL] <;> iassumption
    isplitl [HWa HWb HrW]
    · iapply (joinW c f0)
      isplitr [HrW]
      · rw [two]; isplitl [HWa] <;> iassumption
      iexact HrW
    isplitl [H1]; · iexact H1
    isplitl [HS HrS]
    · iapply (joinS c f2); isplitl [HS] <;> iassumption
    iapply (joinR c f3); isplitl [HV] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 16384 in
/-- The obligation the launch asks of the body. -/
theorem body_obligation (c : Dev nD) : BodyObligation (dats (F := F) m ρ 0 c) (defs₀ (F := F)) 𝒱₀ none Set.univ := fun t => by
  rw [fin_N t]
  rw [bigSep_W, bigSep_W]
  simp only [owns_whole_eq]
  show bodyPre m ρ c ⊢ wp frame (wpE (defs₀ (F := F)) 𝒱₀ c none) Set.univ (kbody (F := F)) (fun _ => bodyPost m ρ c)
  exact body_between m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- What a device ends with outside its scope: the barrier's counter at zero, its weights. -/
def left (c : Dev nD) : sProp 𝕄 := iprop(unscopedSems0 c ∗ wHeld m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ left
  rw [unscopedSems0_eq, kinds]
  iintro ⟨⟨HB, HS, HV⟩, Hw, Hwt, Hr⟩
  isplitl [HB Hwt]
  · isplitl [HB] <;> iassumption
  isplitl [Hw HS HV]
  · isplitl [Hw]; · iexact Hw
    isplitl [HS] <;> iassumption
  iexact Hr

theorem waits (c : Dev nD) : (levAts L lv : sProp 𝕄) ⊢ Pipeline.cellsWaits cfgs (dats m ρ) none 0 c :=
  Pipeline.cellsWaits_intro cfgs (dats m ρ) none 0 c fun w s t => by
    rcases t with ⟨_ | _, ht⟩
    · exact mayWait_low c _ 0 0
    · show (levAts L lv : sProp 𝕄) ⊢ MayWait (c : Thread nD τ) _ none 0
      rw [MayWait_zero]; iintro -; iempintro

theorem left_read (c : Dev nD) (s' : Phys nD τ sig (Elt F)) : iprop(left m c ∗ emp ∗ SI s')
    ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold left
  iintro ⟨⟨Hu, Hw⟩, -, HSI⟩
  ihave H := (pointsTo_read_all (S := ({()} : Finset Unit)) (fun _ => (c : Thread nD τ).loc main_arg1) (fun _ => m ((c : Thread nD τ).loc main_arg1)) s' fullShare) $$ [Hw HSI]
  · rw [bigSep_singleton]; isplitl [Hw] <;> iassumption
  icases H with ⟨%hw, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hw () (Finset.mem_singleton_self _)⟩
  iexact HSI

/-! ## The run -/

def finalA (c : Dev nD) (w : Fin cfg0.W) : Buf (Elt F) ((cfg0.win w).arr.view.loc (c : Thread nD τ)) := (dats m ρ 0 c).arrAt w cfg0.N

/-- What a run ends in: the windows' arrays at their final contents, the weights as launched. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- Every fair run of the program on the eight devices, from any memory with the counters at zero and at any float values, ends, with the arrays
    as computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) none cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own (((Emb.inl : Emb UX (UX × Counters)).trans embR) (initOf exchCells exchToks)) ⊢ (|==> bigSep Finset.univ (G m) : sProp 𝕄) from fund_exch m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := left_read m)
    (hQ := fun _ h hs => ⟨fun c => ⟨fun w => (h c).1 w, (h c).2.2.2⟩, sem_eq_zero hs fun c => (h c).2.2.1⟩)

end Cert.Fused

end
-- ==== Proof.Frames.lean ====
/-
  Each program runs, leaves its arguments as they were and its counters at zero. The kernel's run is proved once, for any
  float values (Run.lean); the two references are lines of host operations with no semaphore at all.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.UnclippedIdeal.Run

@[expose] public section

noncomputable section

namespace Cert.Fused

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem final_x (c : Dev nD) : finalA m ρ c (0 : Fin 4) = m ((c : Thread nD τ).loc main_arg0) :=
  (dats (F := F) m ρ 0 c).arrAt_in (0 : Fin 4) rfl _
theorem final_sx (c : Dev nD) : finalA m ρ c (1 : Fin 4) = m ((c : Thread nD τ).loc main_arg2) :=
  (dats (F := F) m ρ 0 c).arrAt_in (1 : Fin 4) rfl _
theorem final_sw (c : Dev nD) : finalA m ρ c (2 : Fin 4) = m ((c : Thread nD τ).loc main_arg3) :=
  (dats (F := F) m ρ 0 c).arrAt_in (2 : Fin 4) rfl _

/-- The four arguments are what they were. -/
def Kept (r : PUnit × MemSt nD τ sig (Elt F)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)

theorem kept_of_ends {r : PUnit × MemSt nD τ sig (Elt F)} (h : Ends m ρ r) (c : Dev nD) : Kept m r c :=
  ⟨((h c).1 (0 : Fin 4)).trans (final_x m ρ c), (h c).2, ((h c).1 (1 : Fin 4)).trans (final_sx m ρ c),
    ((h c).1 (2 : Fin 4)).trans (final_sw m ρ c)⟩

/-! The program as printed and the one read at the ideal values are the same text: the same body, the same calls. -/

set_option maxHeartbeats 1000000 in
theorem body_same : Cert.Kernel.cc0_body (F := Bits) = Cert.KernelIdeal.cc0_body (F := Bits) := rfl

set_option maxHeartbeats 1000000 in
theorem calls_same : Cert.Kernel.defs₀ (F := Bits) = Cert.KernelIdeal.defs₀ (F := Bits) := by
  unfold Cert.Kernel.defs₀ Cert.KernelIdeal.defs₀
  rw [body_same]
  refine congrArg Defs.onTc ?_
  funext l a
  match l, a with
  | 0, (t, s) => rfl

theorem defs_same : Cert.Kernel.defs (F := Bits) = Cert.KernelIdeal.defs (F := Bits) :=
  congrArg (Pipeline.defs _) calls_same

theorem frame_kernel : Cert.quiescent_Kernel := fun m ρ _ => by
  rw [defs_same]
  exact (θ_run Cert.KernelIdeal.defs _ _).mono (fun _ h => ⟨fun c => kept_of_ends m ρ h.1 c, h.2⟩)
    (run_main (F := Bits) m ρ)

theorem frame_kernelIdeal : Cert.quiescent_KernelIdeal := fun m ρ _ =>
  (θ_run Cert.KernelIdeal.defs _ _).mono (fun _ h => ⟨fun c => kept_of_ends m ρ h.1 c, h.2⟩) (run_main (F := Ideal) m ρ)

theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem frame_unclippedIdeal : Cert.quiescent_UnclippedIdeal := fun m ρ _ =>
  (θ_run Cert.UnclippedIdeal.defs _ _).mono
    (fun r h => ⟨fun c => (h c).2, sem_eq_zero_of_no_sems (by decide) r.2⟩) (Cert.UnclippedIdeal.Value.run m ρ)

end Cert.Fused

end
-- ==== Proof.Silu.lean ====
/-
  The mathematics, on the extended reals: the dot of a row of `A` and a column of `W` times the scale, and that value `y`
  over `1 + e⁻ʸ`. The kernel multiplies by the sigmoid, which is the same everywhere; the clip at sixty of the clipped
  form changes nothing where `|y| ≤ 60`.
-/
module

public import Idealize.ShloMosaic.Lib.MatmulPlain
public import Idealize.ShloMosaic.Lib.StackMember
public import Idealize.ShloMosaic.Lib.IdealHost
public import Idealize.ShloMosaic.Lib.Layout

@[expose] public section

noncomputable section

namespace Cert.Fused

open Idealize.ShloMosaic Idealize.ShloMosaic.ValueIdx

/-- `y / (1 + e⁻ᶻ)`: the host's form, its exponent named apart. -/
def over (y z : EReal) : EReal := Ideal.div y (1 + Ideal.exp (-z))

theorem one_add_exp_ne (z : EReal) : 1 + Ideal.exp z ≠ 0 := by
  have h0 : (0 : EReal) ≤ Ideal.exp z := by
    induction z with
    | bot => exact le_of_eq rfl
    | top => exact le_top
    | coe r => exact EReal.coe_nonneg.mpr (Real.exp_nonneg r)
  have h1 : (1 : EReal) ≤ 1 + Ideal.exp z := by simpa using add_le_add_right h0 1
  exact fun h => absurd (h ▸ h1) (not_le.mpr zero_lt_one)

/-- Multiplying by the sigmoid is dividing by `1 + e⁻ʸ`. -/
theorem mul_logistic (y : EReal) : y * Ideal.logistic y = over y y := by
  unfold over Ideal.logistic Ideal.div
  rw [if_neg (one_add_exp_ne _), if_neg (one_add_exp_ne _), one_mul]

/-- The dot of row `r` of `A` and column `k` of `W`, scaled. -/
def scaled {M N : ℕ} (A : (⟨2, ![M, 4096]⟩ : Shape).Idx → EReal) (W : (⟨2, ![4096, N]⟩ : Shape).Idx → EReal) (s : EReal)
    (r : Fin M) (k : Fin N) : EReal := (∑ q : Fin 4096, A (ix2 r q) * W (ix2 q k)) * s

theorem sixty : Ideal.ofBits .f32 0x42700000#32 = ((60 : ℝ) : EReal) := by
  simp [Ideal.ofBits, Ideal.ieee, -EReal.coe_mul, -EReal.coe_neg]; norm_num
theorem negSixty : Ideal.ofBits .f32 0xC2700000#32 = ((-60 : ℝ) : EReal) := by
  simp [Ideal.ofBits, Ideal.ieee, -EReal.coe_mul, -EReal.coe_neg]; norm_num

/-- The clip is idle where `|y| ≤ 60`. -/
theorem clip_eq (y : EReal) (h : max y (-y) ≤ ((60 : ℝ) : EReal)) : min ((60 : ℝ) : EReal) (max ((-60 : ℝ) : EReal) y) = y := by
  have h1 : y ≤ ((60 : ℝ) : EReal) := (le_max_left _ _).trans h
  have h2 : ((-60 : ℝ) : EReal) ≤ y := by
    have := EReal.neg_le_neg_iff.mpr ((le_max_right y (-y)).trans h)
    rwa [neg_neg, ← EReal.coe_neg] at this
  rw [max_eq_right h2, min_eq_right h1]

end Cert.Fused

end
-- ==== Proof.Bridge.lean ====
/-
  What the kernel leaves on device `c`, at the ideal values: at row `r` and column `l` of its block of columns the dot of
  row `r` of the whole `x` and column `1024 c + l` of the weights, scaled and put through SiLU.
-/
module

public import proofs.«01_k».proof.Proof.Frames
public import proofs.«01_k».proof.Proof.Silu

@[expose] public section

noncomputable section

namespace Cert.Fused

open Cert.KernelIdeal Cert.KernelIdeal.Gen
open Idealize.ShloMosaic Idealize.ShloMosaic.TcCoe Idealize.ShloMosaic.ValueIdx Idealize.SL.Sem

section AnyFloats

variable {F : FTy → Type} [FloatOps F]
variable (m : (ℓ : Loc nD τ sig) → Buf (Elt F) ℓ) (ρ : Dev nD → PrngReg)

/-- An array read through the window that is the whole of it. -/
theorem whole_block (b : Ref sig .tc) (f : b.ty.Contents (Elt F)) (inb : ∀ a, 0 * b.ty.shape.size a + b.ty.shape.size a ≤ b.ty.shape.size a := fun a => by omega) :
    ((Memref.whole b).access (Rect.unit (fun a => 0 * b.ty.shape.size a) b.ty.shape.size inb) : View sig .tc _ _ _).read (Elt F) f = f :=
  Memref.read_access_unit_zero (Elt F) b (funext fun _ => Nat.zero_mul _) inb f

/-- The result's one block is the whole result. -/
theorem final_out (c : Dev nD) : finalA m ρ c (3 : Fin 4) = outAt m c := by
  have h : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact ((whole_block main_v1 _).symm.trans h)

/-- The staged arrays are the arguments. -/
theorem xAt_eq (c : Dev nD) : xAt m c = m ((c : Thread nD τ).loc main_arg0) := whole_block main_arg0 _
theorem sxAt_eq (c : Dev nD) : sxAt m c = m ((c : Thread nD τ).loc main_arg2) := whole_block main_arg2 _
theorem swAt_eq (c : Dev nD) : swAt m c = m ((c : Thread nD τ).loc main_arg3) := whole_block main_arg3 _

theorem off1_eq : ∀ (c : Dev nD) (t : Fin 8) (h : Fin 2),
    k0_off1 c (BitVec.ofNat 32 (1 + t.val)) (BitVec.ofNat 32 (512 * h.val)) = ![0, 1024 * ((c.val + t.val + 1) % 8) + 512 * h.val] := by
  decide +kernel

/-- The columns copied at step `(t, h)`, in the whole weights. -/
theorem wTile_eq (c : Dev nD) (t : Fin 8) (h : Fin 2) (q : Fin 4096) (l : Fin 512) (k : Fin 8192)
    (hk : k.val = 1024 * ((c.val + t.val + 1) % 8) + 512 * h.val + l.val) :
    wTile m c t h (ix2 q l) = m ((c : Thread nD τ).loc main_arg1) (ix2 q k) := by
  refine congrArg (m ((c : Thread nD τ).loc main_arg1)) (funext fun a => Fin.ext ?_)
  have e := off1_eq c t h
  match a with
  | ⟨0, _⟩ =>
    show k0_off1 c (BitVec.ofNat 32 (1 + t.val)) (BitVec.ofNat 32 (512 * h.val)) 0 + 1 * q.val = q.val
    rw [e, Nat.one_mul]; exact Nat.zero_add _
  | ⟨1, _⟩ =>
    show k0_off1 c (BitVec.ofNat 32 (1 + t.val)) (BitVec.ofNat 32 (512 * h.val)) 1 + 1 * l.val = k.val
    rw [e, Nat.one_mul, hk]; rfl

end AnyFloats

variable (m : (ℓ : Loc nD τ sig) → Buf (Elt Ideal) ℓ)

theorem dot_plain : dot_S512x4096_S4096x512_S512x512_1_0_0_1_n_n = DotDims.plain 512 4096 512 := rfl

/-- One step's tile at row `r` and column `l`. -/
theorem tileOf_apply (s : EReal) (x : S512x4096.Idx → EReal) (w : S4096x512.Idx → EReal) (r l : Fin 512) :
    tileOf (F := Ideal) s x w (ix2 r l) = over (scaled x w s r l) (scaled x w s r l) := by
  have hy : (mulf (matmul (F := Ideal) dot_S512x4096_S4096x512_S512x512_1_0_0_1_n_n none (truncf .fp8e5m2 x bitsLt_fp8e5m2_f32)
      (truncf .fp8e5m2 w bitsLt_fp8e5m2_f32) (constant S512x512 .f32 0x00000000#32)) (broadcast S512x512 s) : FVec Ideal S512x512 .f32) (ix2 r l)
      = scaled x w s r l := by
    rw [dot_plain]
    show FloatOps.matmul (F := Ideal) (DotDims.plain 512 4096 512) none _ _ _ (ix2 r l) * s = _
    rw [Ideal.matmul_plain_apply]
    show (Ideal.ofBits .f32 0x00000000#32 + ∑ q : Fin 4096, x (ix2 r q) * w (ix2 q l)) * s = _
    rw [Ideal.ofBits_zero_f32, zero_add]; rfl
  unfold tileOf
  refine Eq.trans ?_ (mul_logistic _)
  exact congrArg (fun y => y * Ideal.logistic y) hy

/-- The whole product's value at row `r` and column `k`, before the activation. -/
theorem tileAt_apply (A : (⟨2, ![4096, 4096]⟩ : Shape).Idx → EReal) (d : Dev nD) (t : Fin 8) (h : Fin 2) (r l : Fin 512) (r' : Fin 4096) (k : Fin 8192)
    (hA : m ((d : Thread nD τ).loc main_arg0) = Layout.block S512x4096 ⟨2, ![4096, 4096]⟩ 0 8 d A)
    (hr : r'.val = 512 * d.val + r.val) (hk : k.val = 1024 * ((d.val + t.val + 1) % 8) + 512 * h.val + l.val) (s : EReal) (hs : sAt m d = s) :
    tileAt m d t h (ix2 r l) = over (scaled A (m ((d : Thread nD τ).loc main_arg1)) s r' k) (scaled A (m ((d : Thread nD τ).loc main_arg1)) s r' k) := by
  have e : scaled (xAt m d) (wTile m d t h) (sAt m d) r l = scaled A (m ((d : Thread nD τ).loc main_arg1)) s r' k := by
    unfold scaled
    rw [hs]
    refine congrArg (· * s) (Finset.sum_congr rfl fun q _ => ?_)
    rw [wTile_eq m d t h q l k hk, xAt_eq, hA]
    refine congrArg (· * _) (congrArg A (funext fun a => Fin.ext ?_))
    match a with
    | ⟨0, _⟩ => show d.val * 512 + r.val = r'.val; omega
    | ⟨1, _⟩ => rfl
  unfold tileAt
  rw [tileOf_apply, e]

end Cert.Fused

end
-- ==== Proof.Value.lean ====
/-
  The value claims. Both references are lines of host operations, read at an index; the kernel's block of the result on
  device `c` is block `c` of the columns of the clip-free reference's result, everywhere. Where `|y| ≤ 60` the clip is
  idle, and the clipped reference holds the same.
-/
module

public import proofs.«01_k».proof.Proof.Bridge
public import proofs.«01_k».proof.Proof.Gen.On_clip_idle

@[expose] public section

noncomputable section

namespace Cert.Fused

open Cert.KernelIdeal Cert.KernelIdeal.Gen
open Idealize.ShloMosaic Idealize.ShloMosaic.TcCoe Idealize.ShloMosaic.ValueIdx Idealize.SL.Sem

/-- The whole arrays' shapes. -/
abbrev SX : Shape := ⟨2, ![4096, 4096]⟩
abbrev SW : Shape := ⟨2, ![4096, 8192]⟩

/-- What is computed: the scaled dots, each over one plus the exponential of its negative. -/
def whole (A : SX.Idx → EReal) (W : SW.Idx → EReal) (s : EReal) : SW.Idx → EReal := fun i =>
  over (scaled A W s (i 0) (i 1)) (scaled A W s (i 0) (i 1))

/-! ## The kernel -/

variable (m : (ℓ : Loc nD τ sig) → Buf (Elt Ideal) ℓ) (ρ : Dev nD → PrngReg)

/-- Every device holds its rows of `A`, all of `W`, and both scales. -/
def Holds (A : SX.Idx → EReal) (W : SW.Idx → EReal) (sx sw : S1.Idx → EReal) : Prop := ∀ c : Dev nD,
  m ((c : Thread nD τ).loc main_arg0) = Layout.block S512x4096 SX 0 8 c A ∧ m ((c : Thread nD τ).loc main_arg1) = W
  ∧ m ((c : Thread nD τ).loc main_arg2) = sx ∧ m ((c : Thread nD τ).loc main_arg3) = sw

variable {m} {A : SX.Idx → EReal} {W : SW.Idx → EReal} {sx sw : S1.Idx → EReal}

theorem scale_eq (hm : Holds m A W sx sw) (d : Dev nD) : sAt m d = sx one1 * sw one1 := by
  unfold sAt
  rw [sxAt_eq, swAt_eq, (hm d).2.2.1, (hm d).2.2.2]
  rfl

/-- The tile that device `d` computes for device `c`, in the whole result. -/
theorem tile_whole (hm : Holds m A W sx sw) (c d : Dev nD) (t : Fin 8) (hc : (d.val + t.val + 1) % 8 = c.val) (y : S4096x1024.Idx)
    (hd : rowBlock y = d) :
    tileAt m d t (half (inRows y)) (inHalf (inRows y)) = (Layout.block S4096x1024 SW 1 8 c (whole A W (sx one1 * sw one1))) y := by
  have hy0 : (y 0).val / 512 = d.val := congrArg Fin.val hd
  have e := tileAt_apply m A d t (half (inRows y)) (inHalf (inRows y) 0) (inHalf (inRows y) 1)
    ((show Layout.Tiles S4096x1024 SW 1 8 by decide).idx c y 0) ((show Layout.Tiles S4096x1024 SW 1 8 by decide).idx c y 1) (hm d).1
    (by show (y 0).val = 512 * d.val + (y 0).val % 512; omega)
    (by show c.val * 1024 + (y 1).val = 1024 * ((d.val + t.val + 1) % 8) + 512 * ((y 1).val / 512) + (y 1).val % 512; omega)
    _ (scale_eq hm d)
  rw [(hm d).2.1] at e
  rw [eq_ix2 (inHalf (inRows y))]
  exact e

theorem dn_place (c : Dev nD) (i : Fin 7) : ((dn c i).val + i.castSucc.val + 1) % 8 = c.val := by revert c i; decide
theorem own_place (c : Dev nD) : (c.val + (7 : Fin 8).val + 1) % 8 = c.val := by revert c; decide

/-- Device `c`'s result is block `c` of the columns. -/
theorem outAt_eq (hm : Holds m A W sx sw) (c : Dev nD) : outAt m c = Layout.block S4096x1024 SW 1 8 c (whole A W (sx one1 * sw one1)) := by
  funext y
  unfold outAt
  rcases self_or_dn (rowBlock y) c with hd | ⟨i, hd⟩
  · rw [hd, blockAt_self]
    exact tile_whole hm c c 7 (own_place c) y hd
  · rw [hd, blockAt_dn]
    exact tile_whole hm c (dn c i) i.castSucc (dn_place c i) y hd

theorem kernel_run (hm : Holds m A W sx sw) :
    θ_run (defs (F := Ideal)) (onTc (τ := τ) (main (F := Ideal))) ⟨m, fun _ => 0, ρ⟩ (fun r => ∀ c : Dev nD,
      r.2.mem ((c : Thread nD τ).loc main_v1) = Layout.block S4096x1024 SW 1 8 c (whole A W (sx one1 * sw one1)) ∧ Kept m r c) :=
  (θ_run defs _ _).mono (fun _ h c => ⟨((h.1 c).1 (3 : Fin 4)).trans ((final_out m ρ c).trans (outAt_eq hm c)), kept_of_ends m ρ h.1 c⟩)
    (run_main (F := Ideal) m ρ)

/-! ## The references -/

theorem one_index (i : S1.Idx) : i = one1 := funext fun a => by
  have same : ∀ a b : Fin 1, a = b := by decide
  match a with
  | ⟨0, _⟩ => exact same _ _

/-- The scaled dots as the host writes them. -/
def hostY (A : SX.Idx → EReal) (W : SW.Idx → EReal) (sx sw : S1.Idx → EReal) : FVec Ideal SW .f32 :=
  mulf (Host.dotGeneral (φ₁ := .f32) (φ₂ := .f32) (DotDims.plain 4096 4096 8192) none A W)
    (broadcastInDim Cert.UnclippedIdeal.S4096x8192 ![0, 1] Cert.UnclippedIdeal.Gen.bcast_S1x1_S4096x8192_0_1
      (broadcastInDim Cert.UnclippedIdeal.S1x1 ![1] Cert.UnclippedIdeal.Gen.bcast_S1_S1x1_1 (mulf sx sw : FVec Ideal S1 .f32)))

theorem hostY_apply (A : SX.Idx → EReal) (W : SW.Idx → EReal) (sx sw : S1.Idx → EReal) (i : SW.Idx) :
    hostY A W sx sw i = scaled A W (sx one1 * sw one1) (i 0) (i 1) := by
  unfold scaled
  refine congr (congrArg HMul.hMul ?_) ?_
  · exact (congrArg _ (eq_ix2 i)).trans (StackMember.dotGeneral_plain_apply none A W (i 0) (i 1))
  · exact congr (congrArg HMul.hMul (congrArg sx (one_index _))) (congrArg sw (one_index _))

/-- A number of no dimensions, everywhere. -/
def everywhere (b : BitVec 32) : FVec Ideal SW .f32 :=
  broadcastInDim Cert.UnclippedIdeal.S4096x8192 ![] Cert.UnclippedIdeal.Gen.bcast_S_S4096x8192 (constant Cert.UnclippedIdeal.S_ .f32 b)

/-- The host's last lines: `y` over one plus the exponential of minus `z`. -/
def hostOver (y z : FVec Ideal SW .f32) : FVec Ideal SW .f32 :=
  Host.divf y (addf (everywhere 0x3F800000#32) (Host.exp (Host.negf z)))

theorem hostOver_apply (y z : FVec Ideal SW .f32) (i : SW.Idx) : hostOver y z i = over (y i) (z i) := by
  show Ideal.div (y i) (Ideal.ofBits .f32 0x3F800000#32 + Ideal.exp (-(z i))) = _
  rw [Ideal.ofBits_one_f32]
  rfl

theorem unclipped_eq (A : SX.Idx → EReal) (W : SW.Idx → EReal) (sx sw : S1.Idx → EReal) :
    hostOver (hostY A W sx sw) (hostY A W sx sw) = whole A W (sx one1 * sw one1) := by
  funext i
  rw [hostOver_apply, hostY_apply]
  rfl

/-- Where the predicate holds, the clip is idle. -/
theorem idle_clip (A : SX.Idx → EReal) (W : SW.Idx → EReal) (sx sw : S1.Idx → EReal) (i : SW.Idx)
    (h : Cert.On_clip_idle.fn (F := Ideal) A W sx sw i = 1#1) :
    max (hostY A W sx sw i) (-(hostY A W sx sw i)) ≤ ((60 : ℝ) : EReal) := by
  have e : BitVec.ofBool (decide (max (hostY A W sx sw i) (-(hostY A W sx sw i)) ≤ Ideal.ofBits .f32 0x42700000#32)) = 1#1 := h
  rw [sixty] at e
  by_contra hn
  rw [decide_eq_false hn] at e
  exact absurd e (by decide)

/-- The clipped exponent, as the host writes it. -/
def hostClip (y : FVec Ideal SW .f32) : FVec Ideal SW .f32 :=
  minimumf (everywhere 0x42700000#32) (maximumf (everywhere 0xC2700000#32) y)

theorem clipped_eq (A : SX.Idx → EReal) (W : SW.Idx → EReal) (sx sw : S1.Idx → EReal) (i : SW.Idx)
    (h : Cert.On_clip_idle.fn (F := Ideal) A W sx sw i = 1#1) :
    hostOver (hostY A W sx sw) (hostClip (hostY A W sx sw)) i = whole A W (sx one1 * sw one1) i := by
  have e : hostClip (hostY A W sx sw) i = hostY A W sx sw i := by
    show min (Ideal.ofBits .f32 0x42700000#32) (max (Ideal.ofBits .f32 0xC2700000#32) (hostY A W sx sw i)) = _
    rw [sixty, negSixty]
    exact clip_eq _ (idle_clip A W sx sw i h)
  rw [hostOver_apply, e, hostY_apply]
  rfl

/-! ## The claims -/

theorem algebraic_unclipped : Cert.algebraic_KernelIdeal_UnclippedIdeal := by
  intro m g m' g' _ hm
  exact ⟨_, (θ_run _ _ _).mono (fun _ h c => ⟨(h c).1, (h c).2⟩) (kernel_run g hm),
    (θ_run _ _ _).mono (fun _ h => ⟨(h 0).1.trans (unclipped_eq _ _ _ _), (h 0).2⟩) (Cert.UnclippedIdeal.Value.run m' g')⟩

theorem algebraic_clipped : Cert.algebraic_KernelIdeal_ReferenceIdeal_on_clip_idle := by
  intro m g m' g' _ hm
  exact ⟨_, (θ_run _ _ _).mono (fun _ h c => ⟨fun i _ => congrFun (h c).1 i, (h c).2⟩) (kernel_run g hm),
    (θ_run _ _ _).mono (fun _ h => ⟨fun i hi => (congrFun (h 0).1 i).trans (clipped_eq _ _ _ _ i hi), (h 0).2⟩)
      (Cert.ReferenceIdeal.Value.run m' g')⟩

end Cert.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_clip_idle
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.UnclippedIdeal.Gen.facts, Cert.On_clip_idle.Gen.facts,
  Cert.Fused.frame_kernel, Cert.Fused.frame_kernelIdeal, Cert.Fused.frame_referenceIdeal, Cert.Fused.frame_unclippedIdeal, trivial,
  Cert.Fused.algebraic_clipped, Cert.Fused.algebraic_unclipped⟩

end Cert.Proof

end
